-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_prior_finite [hPre_prior_finite : Cert.Pre_prior_finite.Facts] (m : (ℓ : Loc Cert.KernelIdeal.nD Cert.KernelIdeal.τ Cert.KernelIdeal.sig) → Buf (Elt Ideal) ℓ) : Prop :=
  ∀ c : Dev Cert.KernelIdeal.nD,
    (Cert.Pre_prior_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_prior_finite [hPre_prior_finite : Cert.Pre_prior_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_prior_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_prior_finite [hKernelIdeal : Cert.KernelIdeal.Facts] [hPre_prior_finite : Cert.Pre_prior_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_prior_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_prior_finite [hReferenceIdeal : Cert.ReferenceIdeal.Facts] [hPre_prior_finite : Cert.Pre_prior_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_prior_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "neg_half_log2e" .f32 0xBF38AA3B#32 (((-1 / 2) * (Real.log 2)⁻¹ : ℝ) : EReal)
  ∧ IdealRules.named_const.Statement Cert.KernelIdeal.κ "twice_pri_scale" .f32 0x3FFFDF42#32 ((2 * (Real.sqrt (8598524527 / 8589934592))⁻¹ : ℝ) : EReal)

def algebraic_KernelIdeal_ReferenceIdeal_pre_prior_finite [hKernelIdeal : Cert.KernelIdeal.Facts] [hReferenceIdeal : Cert.ReferenceIdeal.Facts] [hPre_prior_finite : Cert.Pre_prior_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_prior_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_prior_finite : Cert.Pre_prior_finite.Facts),
    quiescent_Kernel (hKernel := hKernel)
    ∧ quiescent_KernelIdeal (hKernelIdeal := hKernelIdeal)
    ∧ quiescent_KernelIdeal_pre_prior_finite (hKernelIdeal := hKernelIdeal) (hPre_prior_finite := hPre_prior_finite)
    ∧ quiescent_ReferenceIdeal (hReferenceIdeal := hReferenceIdeal)
    ∧ quiescent_ReferenceIdeal_pre_prior_finite (hReferenceIdeal := hReferenceIdeal) (hPre_prior_finite := hPre_prior_finite)
    ∧ preserves_Kernel_KernelIdeal
    ∧ algebraic_KernelIdeal_ReferenceIdeal_pre_prior_finite (hKernelIdeal := hKernelIdeal) (hReferenceIdeal := hReferenceIdeal) (hPre_prior_finite := hPre_prior_finite)
-- ==== Pre_prior_finite.lean ====
abbrev S16x2048x256 : Shape := ⟨3, ![16, 2048, 256]⟩
abbrev S8x256 : Shape := ⟨2, ![8, 256]⟩
abbrev S8x1 : Shape := ⟨2, ![8, 1]⟩
abbrev S_ : Shape := ⟨0, ![]⟩

class Facts : Prop where
  bcast_S_S8x1 : S_.BroadcastsInDim S8x1 (![] : Fin 0 → Fin S8x1.rank)

variable [Facts]

def fn {F : FTy → Type} [FloatOps F] (main_arg0 : FVec F S16x2048x256 .f32) (main_arg1 : FVec F S8x256 .f32) (main_arg2 : FVec F S8x256 .f32) (main_arg3 : FVec F S8x1 .f32) : IVec S8x1 1 :=
  let main_cst : FVec F S_ .f32 := constant S_ .f32 0xFF800000#32
  let main_v0 : FVec F S8x1 .f32 := broadcastInDim S8x1 ![] bcast_S_S8x1 main_cst
  let main_v1 : IVec S8x1 1 := cmpf .ogt main_arg3 main_v0
  let main_cst_0 : FVec F S_ .f32 := constant S_ .f32 0x7F800000#32
  let main_v2 : FVec F S8x1 .f32 := broadcastInDim S8x1 ![] bcast_S_S8x1 main_cst_0
  let main_v3 : IVec S8x1 1 := cmpf .olt main_arg3 main_v2
  let main_v4 : IVec S8x1 1 := andi main_v1 main_v3
  main_v4
-- ==== Kernel.lean ====
abbrev S16x2048x256 : Shape := ⟨3, ![16, 2048, 256]⟩
abbrev S8x256 : Shape := ⟨2, ![8, 256]⟩
abbrev S8x1 : Shape := ⟨2, ![8, 1]⟩
abbrev S1x2048x256 : Shape := ⟨3, ![1, 2048, 256]⟩
abbrev S16x8x256 : Shape := ⟨3, ![16, 8, 256]⟩
abbrev S1x128x256 : Shape := ⟨3, ![1, 128, 256]⟩
abbrev S128x256 : Shape := ⟨2, ![128, 256]⟩
abbrev S1x256 : Shape := ⟨2, ![1, 256]⟩
abbrev S256 : Shape := ⟨1, ![256]⟩
abbrev S1x8x256 : Shape := ⟨3, ![1, 8, 256]⟩

abbrev nBuf : Space → Nat
  | .hbm => 5
  | .vmem => 9
  | .smem => 0
  | _ => 0

abbrev bufTy : (tb : Table) → Fin (tcTables nBuf tb) → BufTy
  | .hbm, ⟨0, _⟩ => ⟨S16x2048x256, .f32⟩
  | .hbm, ⟨1, _⟩ => ⟨S8x256, .f32⟩
  | .hbm, ⟨2, _⟩ => ⟨S8x256, .f32⟩
  | .hbm, ⟨3, _⟩ => ⟨S8x1, .f32⟩
  | .hbm, ⟨4, _⟩ => ⟨S16x2048x256, .f32⟩
  | .local _ .vmem, ⟨0, _⟩ => ⟨S1x2048x256, .f32⟩
  | .local _ .vmem, ⟨1, _⟩ => ⟨S1x2048x256, .f32⟩
  | .local _ .vmem, ⟨2, _⟩ => ⟨S8x256, .f32⟩
  | .local _ .vmem, ⟨3, _⟩ => ⟨S8x256, .f32⟩
  | .local _ .vmem, ⟨4, _⟩ => ⟨S1x2048x256, .f32⟩
  | .local _ .vmem, ⟨5, _⟩ => ⟨S1x2048x256, .f32⟩
  | .local _ .vmem, ⟨6, _⟩ => ⟨S8x256, .f32⟩
  | .local _ .vmem, ⟨7, _⟩ => ⟨S16x8x256, .f32⟩
  | .local _ .vmem, ⟨8, _⟩ => ⟨S16x8x256, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c0_i32 : BitVec 32 := 0#32
  let v20 : BitVec 1 := Scalar.cmpi .eq arg0 c0_i32
  let v21 : BitVec 32 := Scalar.extui v20
  let c0_i32_6 : BitVec 32 := 0#32
  let v22 : BitVec 1 := Scalar.cmpi .ne v21 c0_i32_6
  v22

def k0_off1 (i : grid0.Coords) : Fin 3 → Nat :=
  let arg1 : BitVec 32 := BitVec.ofNat 32 (i 1).val
  let c1_i32_503 : BitVec 32 := 1#32
  let v2988 : BitVec 32 := Scalar.muli arg1 c1_i32_503
  let c0_i32_504 : BitVec 32 := 0#32
  let v2989 : BitVec 32 := Scalar.addi v2988 c0_i32_504
  let v2990 : Index := Scalar.indexCast v2989
  let c0_505 : Index := 0#32
  let c0_506 : Index := 0#32
  ![v2990.toNat, 0, 0]
def k0_cond3 (i : grid0.Coords) : BitVec 1 :=
  let arg0 : BitVec 32 := BitVec.ofNat 32 (i 0).val
  let c1_i32 : BitVec 32 := 1#32
  let v23 : BitVec 1 := Scalar.cmpi .eq arg0 c1_i32
  let v24 : BitVec 32 := Scalar.extui v23
  let c0_i32_7 : BitVec 32 := 0#32
  let v25 : BitVec 1 := Scalar.cmpi .ne v24 c0_i32_7
  v25

def k0_off2 (i : grid0.Coords) : Fin 3 → Nat :=
  let arg1 : BitVec 32 := BitVec.ofNat 32 (i 1).val
  let c1_i32_12 : BitVec 32 := 1#32
  let v31 : BitVec 32 := Scalar.muli arg1 c1_i32_12
  let c0_i32_13 : BitVec 32 := 0#32
  let v32 : BitVec 32 := Scalar.addi v31 c0_i32_13
  let v33 : Index := Scalar.indexCast v32
  let c0_14 : Index := 0#32
  let c0_15 : Index := 0#32
  ![v33.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "neg_half_log2e" => some (((-1 / 2) * (Real.log 2)⁻¹ : ℝ) : EReal)
  | "twice_pri_scale" => some ((2 * (Real.sqrt (8598524527 / 8589934592))⁻¹ : ℝ) : EReal)
  | _ => none
-- ==== ReferenceIdeal.lean ====
abbrev S16x2048x256 : Shape := ⟨3, ![16, 2048, 256]⟩
abbrev S8x256 : Shape := ⟨2, ![8, 256]⟩
abbrev S8x1 : Shape := ⟨2, ![8, 1]⟩
abbrev S_ : Shape := ⟨0, ![]⟩
abbrev S8 : Shape := ⟨1, ![8]⟩
abbrev S1x16x2048x256 : Shape := ⟨4, ![1, 16, 2048, 256]⟩
abbrev S8x1x1x256 : Shape := ⟨4, ![8, 1, 1, 256]⟩
abbrev S8x16x2048x256 : Shape := ⟨4, ![8, 16, 2048, 256]⟩
abbrev S8x1x1x1 : Shape := ⟨4, ![8, 1, 1, 1]⟩
abbrev S8x16x256 : Shape := ⟨3, ![8, 16, 256]⟩
abbrev S8x16x1x256 : Shape := ⟨4, ![8, 16, 1, 256]⟩

abbrev nBuf : Space → Nat
  | .hbm => 103
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S8x256, .f32⟩
  | .hbm, ⟨2, _⟩ => ⟨S8x256, .f32⟩
  | .hbm, ⟨3, _⟩ => ⟨S8x1, .f32⟩
  | .hbm, ⟨4, _⟩ => ⟨S_, .f32⟩
  | .hbm, ⟨5, _⟩ => ⟨S8x256, .f32⟩
  | .hbm, ⟨6, _⟩ => ⟨S8x256, .f32⟩
  | .hbm, ⟨7, _⟩ => ⟨S8x256, .f32⟩
  | .hbm, ⟨8, _⟩ => ⟨S8x256, .f32⟩
  | .hbm, ⟨9, _⟩ => ⟨S8x256, .i1⟩
  | .hbm, ⟨10, _⟩ => ⟨S8x256, .f32⟩
  | .hbm, ⟨11, _⟩ => ⟨S8x256, .f32⟩
  | .hbm, ⟨12, _⟩ => ⟨S8x256, .f32⟩
  | .hbm, ⟨13, _⟩ => ⟨S8x256, .f32⟩
  | .hbm, ⟨14, _⟩ => ⟨S8x256, .f32⟩
  | .hbm, ⟨15, _⟩ => ⟨S8x256, .f32⟩
  | .hbm, ⟨16, _⟩ => ⟨S8x256, .f32⟩
  | .hbm, ⟨17, _⟩ => ⟨S8x256, .f32⟩
  | .hbm, ⟨18, _⟩ => ⟨S_, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S8x1, .f32⟩
  | .hbm, ⟨24, _⟩ => ⟨S8x1, .f32⟩
  | .hbm, ⟨25, _⟩ => ⟨S8x1, .f32⟩
  | .hbm, ⟨26, _⟩ => ⟨S_, .f32⟩
  | .hbm, ⟨27, _⟩ => ⟨S8, .f32⟩
  | .hbm, ⟨28, _⟩ => ⟨S8x1, .f32⟩
  | .hbm, ⟨29, _⟩ => ⟨S8x1, .f32⟩
  | .hbm, ⟨30, _⟩ => ⟨S8, .f32⟩
  | .hbm, ⟨31, _⟩ => ⟨S1x16x2048x256, .f32⟩
  | .hbm, ⟨32, _⟩ => ⟨S8x1x1x256, .f32⟩
  | .hbm, ⟨33, _⟩ => ⟨S8x16x2048x256, .f32⟩
  | .hbm, ⟨34, _⟩ => ⟨S8x16x2048x256, .f32⟩
  | .hbm, ⟨35, _⟩ => ⟨S8x16x2048x256, .f32⟩
  | .hbm, ⟨36, _⟩ => ⟨S8x1x1x1, .f32⟩
  | .hbm, ⟨37, _⟩ => ⟨S_, .f32⟩
  | .hbm, ⟨38, _⟩ => ⟨S8x16x2048x256, .f32⟩
  | .hbm, ⟨39, _⟩ => ⟨S8x16x2048x256, .f32⟩
  | .hbm, ⟨40, _⟩ => ⟨S8x16x2048x256, .f32⟩
  | .hbm, ⟨41, _⟩ => ⟨S8x1x1x256, .f32⟩
  | .hbm, ⟨42, _⟩ => ⟨S_, .f32⟩
  | .hbm, ⟨43, _⟩ => ⟨S8x1x1x256, .f32⟩
  | .hbm, ⟨44, _⟩ => ⟨S8x1x1x256, .f32⟩
  | .hbm, ⟨45, _⟩ => ⟨S8x16x2048x256, .f32⟩
  | .hbm, ⟨46, _⟩ => ⟨S8x16x2048x256, .f32⟩
  | .hbm, ⟨47, _⟩ => ⟨S8x16x2048x256, .f32⟩
  | .hbm, ⟨48, _⟩ => ⟨S8x16x2048x256, .f32⟩
  | .hbm, ⟨49, _⟩ => ⟨S8x16x2048x256, .f32⟩
  | .hbm, ⟨50, _⟩ => ⟨S_, .f32⟩
  | .hbm, ⟨51, _⟩ => ⟨S16x2048x256, .f32⟩
  | .hbm, ⟨52, _⟩ => ⟨S1x16x2048x256, .f32⟩
  | .hbm, ⟨53, _⟩ => ⟨S_, .f32⟩
  | .hbm, ⟨54, _⟩ => ⟨S1x16x2048x256, .f32⟩
  | .hbm, ⟨55, _⟩ => ⟨S1x16x2048x256, .f32⟩
  | .hbm, ⟨56, _⟩ => ⟨S8x16x2048x256, .f32⟩
  | .hbm, ⟨57, _⟩ => ⟨S8x16x2048x256, .f32⟩
  | .hbm, ⟨58, _⟩ => ⟨S_, .f32⟩
  | .hbm, ⟨59, _⟩ => ⟨S8x256, .f32⟩
  | .hbm, ⟨60, _⟩ => ⟨S8x1x1x256, .f32⟩
  | .hbm, ⟨61, _⟩ => ⟨S_, .f32⟩
  | .hbm, ⟨62, _⟩ => ⟨S8x1x1x256, .f32⟩
  | .hbm, ⟨63, _⟩ => ⟨S8x1x1x256, .f32⟩
  | .hbm, ⟨64, _⟩ => ⟨S8x16x2048x256, .f32⟩
  | .hbm, ⟨65, _⟩ => ⟨S8x16x2048x256, .f32⟩
  | .hbm, ⟨66, _⟩ => ⟨S1x16x2048x256, .f32⟩
  | .hbm, ⟨67, _⟩ => ⟨S8x16x2048x256, .f32⟩
  | .hbm, ⟨68, _⟩ => ⟨S8x16x2048x256, .f32⟩
  | .hbm, ⟨69, _⟩ => ⟨S_, .f32⟩
  | .hbm, ⟨70, _⟩ => ⟨S8x16x256, .f32⟩
  | .hbm, ⟨71, _⟩ => ⟨S8x16x1x256, .f32⟩
  | .hbm, ⟨72, _⟩ => ⟨S_, .f32⟩
  | .hbm, ⟨73, _⟩ => ⟨S8x16x1x256, .f32⟩
  | .hbm, ⟨74, _⟩ => ⟨S8x16x1x256, .f32⟩
  | .hbm, ⟨75, _⟩ => ⟨S1x16x2048x256, .f32⟩
  | .hbm, ⟨76, _⟩ => ⟨S8x16x2048x256, .f32⟩
  | .hbm, ⟨77, _⟩ => ⟨S8x16x2048x256, .f32⟩
  | .hbm, ⟨78, _⟩ => ⟨S8x16x2048x256, .f32⟩
  | .hbm, ⟨79, _⟩ => ⟨S8x16x2048x256, .f32⟩
  | .hbm, ⟨80, _⟩ => ⟨S8x16x2048x256, .f32⟩
  | .hbm, ⟨81, _⟩ => ⟨S_, .f32⟩
  | .hbm, ⟨82, _⟩ => ⟨S8x16x256, .f32⟩
  | .hbm, ⟨83, _⟩ => ⟨S8x16x1x256, .f32⟩
  | .hbm, ⟨84, _⟩ => ⟨S_, .f32⟩
  | .hbm, ⟨85, _⟩ => ⟨S8x16x1x256, .f32⟩
  | .hbm, ⟨86, _⟩ => ⟨S8x16x1x256, .f32⟩
  | .hbm, ⟨87, _⟩ => ⟨S_, .f32⟩
  | .hbm, ⟨88, _⟩ => ⟨S8x16x1x256, .f32⟩
  | .hbm, ⟨89, _⟩ => ⟨S8x16x1x256, .f32⟩
  | .hbm, ⟨90, _⟩ => ⟨S8x16x1x256, .f32⟩
  | .hbm, ⟨91, _⟩ => ⟨S8x16x2048x256, .f32⟩
  | .hbm, ⟨92, _⟩ => ⟨S8x16x2048x256, .f32⟩
  | .hbm, ⟨93, _⟩ => ⟨S_, .f32⟩
  | .hbm, ⟨94, _⟩ => ⟨S8, .f32⟩
  | .hbm, ⟨95, _⟩ => ⟨S8, .f32⟩
  | .hbm, ⟨96, _⟩ => ⟨S8, .f32⟩
  | .hbm, ⟨97, _⟩ => ⟨S8x1x1x1, .f32⟩
  | .hbm, ⟨98, _⟩ => ⟨S8x16x2048x256, .f32⟩
  | .hbm, ⟨99, _⟩ => ⟨S8x16x2048x256, .f32⟩
  | .hbm, ⟨100, _⟩ => ⟨S8x16x2048x256, .f32⟩
  | .hbm, ⟨101, _⟩ => ⟨S_, .f32⟩
  | .hbm, ⟨102, _⟩ => ⟨S16x2048x256, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_cst_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_1 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_4 : Ref sig .tc := ⟨.hbm, 50, rfl⟩
abbrev main_v28 : Ref sig .tc := ⟨.hbm, 51, rfl⟩
abbrev main_v29 : Ref sig .tc := ⟨.hbm, 52, rfl⟩
abbrev main_cst_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_6 : Ref sig .tc := ⟨.hbm, 58, rfl⟩
abbrev main_v34 : Ref sig .tc := ⟨.hbm, 59, rfl⟩
abbrev main_v35 : Ref sig .tc := ⟨.hbm, 60, rfl⟩
abbrev main_cst_7 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_8 : Ref sig .tc := ⟨.hbm, 69, rfl⟩
abbrev main_v43 : Ref sig .tc := ⟨.hbm, 70, rfl⟩
abbrev main_v44 : Ref sig .tc := ⟨.hbm, 71, rfl⟩
abbrev main_cst_9 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_10 : Ref sig .tc := ⟨.hbm, 81, rfl⟩
abbrev main_v53 : Ref sig .tc := ⟨.hbm, 82, rfl⟩
abbrev main_v54 : Ref sig .tc := ⟨.hbm, 83, rfl⟩
abbrev main_cst_11 : Ref sig .tc := ⟨.hbm, 84, rfl⟩
abbrev main_v55 : Ref sig .tc := ⟨.hbm, 85, rfl⟩
abbrev main_v56 : Ref sig .tc := ⟨.hbm, 86, rfl⟩
abbrev main_cst_12 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_13 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_14 : Ref sig .tc := ⟨.hbm, 101, rfl⟩
abbrev main_v69 : Ref sig .tc := ⟨.hbm, 102, rfl⟩

abbrev nD : Nat := 1
abbrev τ : Topo := Topo.v7x

variable {F : FTy → Type} [FloatOps F]
-- ==== Proof.KernelFrame.lean ====
/- The frame of the kernel as written, over any float type: it runs, leaves its arguments unchanged and its
   counters at zero. Nothing is said of what the scratch buffers hold between the points or of what the output
   ends holding, so the launch's invariant is that the buffers are there. -/
module

public import proofs.«01_k».proof.Proof.Gen.Kernel.Frame
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the first pass's branch. -/
abbrev cond0_0 (i : grid0.Coords) : Prop := k0_cond1 i = 1#1
/-- It holds at the first sixteen points. -/
theorem hcond0_0 : ∀ t : Fin cfg0.N, cond0_0 (grid0.coords t) ↔ t.val < 16 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 1 % 16 := Pipeline.Grid.coords_val t 1 (by decide) rfl
    simp only [cond0_0, k0_cond1, e0, e1]
    word_cmp
   : ∀ t : Fin grid0.N, cond0_0 (grid0.coords t) ↔ t.val < 16)

/-- The condition of the inner branch: the point is the first of its pass. -/
abbrev cond0_1 (i : grid0.Coords) : Prop := (Scalar.cmpi .ne (Scalar.extui (Scalar.cmpi .eq (BitVec.ofNat 32 (i 1).val) 0#32)) 0#32) = 1#1

/-- The condition of the second pass's branch. -/
abbrev cond0_2 (i : grid0.Coords) : Prop := k0_cond3 i = 1#1
/-- It holds at the other sixteen. -/
theorem hcond0_2 : ∀ t : Fin cfg0.N, cond0_2 (grid0.coords t) ↔ 16 ≤ t.val :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 1 % 16 := Pipeline.Grid.coords_val t 1 (by decide) rfl
    simp only [cond0_2, k0_cond3, e0, e1]
    word_cmp
   : ∀ t : Fin grid0.N, cond0_2 (grid0.coords t) ↔ 16 ≤ t.val)

/-! ## The body's run -/

/-- Each window's current staging memref at point `t`, spelled as the pipeline passes it (`bodyAt0`), and its wholeness. -/
abbrev ms0_0 (t : Fin cfg0.N) : Memref sig .tc .vmem S1x2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x256 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S8x256 .f32 := Memref.whole cc0_scratch0
abbrev scM0_1 : Memref sig .tc .vmem S16x8x256 .f32 := Memref.whole cc0_scratch1
abbrev scM0_2 : Memref sig .tc .vmem S16x8x256 .f32 := Memref.whole cc0_scratch2
/-- The launch's invariant with the scratch operands by name. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- A buffer of which only the ownership is known. -/
abbrev some0 (c : Dev nD) {s : Shape} (a : Memref sig .tc .vmem s .f32) : sProp 𝕄 := iprop(∃ d, owns (c : Thread nD τ) a fullShare d)

set_option maxHeartbeats 4000000 in
/-- The body at any point, of either pass: the input blocks stay, and the output's block and the scratch buffers are there. -/
theorem body_run (c : Dev nD) (i : grid0.Coords) (arg2 : Memref sig .tc .vmem S1x2048x256 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S1x2048x256 .f32) (harg5 : arg5.IsWhole) (arg6 : Memref sig .tc .vmem S8x256 .f32) (harg6 : arg6.IsWhole) (arg7 : Memref sig .tc .vmem S16x8x256 .f32) (harg7 : arg7.IsWhole) (arg8 : Memref sig .tc .vmem S16x8x256 .f32) (harg8 : arg8.IsWhole)
    (hc : cond0_0 i ∧ ¬cond0_2 i ∨ ¬cond0_0 i ∧ cond0_2 i)
    (x0 : Vec F S1x2048x256 .f32) (x1 : Vec F S8x256 .f32) (x2 : Vec F S8x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ some0 c arg5 ∗ some0 c arg6 ∗ some0 c arg7 ∗ some0 c arg8
        ∗ (iprop(owns (c : Thread nD τ) arg2 fullShare x0 ∗ owns (c : Thread nD τ) arg3 fullShare x1 ∗ owns (c : Thread nD τ) arg4 fullShare x2
            ∗ some0 c arg5 ∗ some0 c arg6 ∗ some0 c arg7 ∗ some0 c arg8) -∗ K ⟨⟩))
      ⊢ wp frame (wpE (defs₀ (F := F)) Variants.none c none) E (cc0_ucb_norm i arg2 harg2 arg3 harg3 arg4 harg4 arg5 harg5 arg6 harg6 arg7 harg7 arg8 harg8) K := by
  simp only [cc0_ucb_norm_eq_skeleton]; unfold cc0_ucb_norm_skel
  simp only [k0_part59_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton]
  unfold some0 owns
  iintro ⟨⟨%f0, %hf0, H0⟩, ⟨%f1, %hf1, H1⟩, ⟨%f2, %hf2, H2⟩, ⟨%d3, %f3, -, H3⟩, ⟨%d6, %f6, -, H6⟩, ⟨%d7, %f7, -, H7⟩, ⟨%d8, %f8, -, H8⟩, Hk⟩
  subst hf0 hf1 hf2
  by_cases hc1 : cond0_1 i
  all_goals
    rcases hc with ⟨hc0, hc2⟩ | ⟨hc0, hc2⟩
    all_goals
      sl_exec (disch := first | sl_exact hc0 | sl_exact hc1 | sl_exact hc2)
      sl_step
      iapply Hk
      isplitl [H0]
      · iexists _; isplitr; · ipureintro; rfl
        iexact H0
      isplitl [H1]
      · iexists _; isplitr; · ipureintro; rfl
        iexact H1
      isplitl [H2]
      · iexists _; isplitr; · ipureintro; rfl
        iexact H2
      isplitl [H3]
      · iexists _, _; isplitr; swap; · iexact H3
        ipureintro; rfl
      isplitl [H6]
      · iexists _, _; isplitr; swap; · iexact H6
        ipureintro; rfl
      isplitl [H7]
      · iexists _, _; isplitr; swap; · iexact H7
        ipureintro; rfl
      iexists _, _; isplitr; swap; · iexact H8
      ipureintro; rfl

/-! ## The launch -/

/-- The one window of which nothing is said: the output's. -/
def fgt : Fin 4 → Bool := fun w => w.val == 3

/-- Each window's array as launched and each input block left in place; between points, the scratch buffers. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

/-- Each window's array is the one launched. -/
theorem A_eq (c : Dev nD) (w : Fin cfg0.W) : (dats m 0 c).A w = V m c (Pipeline.arrRef spec0 w) := by dsimp only [dats]
/-- The first input's block is left as it was. -/
theorem after_0 (c : Dev nD) (t) : (dats m 0 c).after 0 t = iblk m c 0 t := by dsimp only [dats]
/-- So is the second's. -/
theorem after_1 (c : Dev nD) (t) : (dats m 0 c).after 1 t = iblk m c 1 t := by dsimp only [dats]
/-- And the third's. -/
theorem after_2 (c : Dev nD) (t) : (dats m 0 c).after 2 t = iblk m c 2 t := by dsimp only [dats]

/-- What the body is called with at a point, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (∃ d, owns (c : Thread nD τ) (ms0_3 t) fullShare d))

/-- A point belongs to one of the two passes. -/
theorem pass (t : Fin cfg0.N) : cond0_0 (grid0.coords t) ∧ ¬cond0_2 (grid0.coords t) ∨ ¬cond0_0 (grid0.coords t) ∧ cond0_2 (grid0.coords t) := by
  rw [hcond0_0, hcond0_2]; omega

set_option maxHeartbeats 1000000 in
/-- The body keeps the launch's invariant at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after_0 m c) t, before0_1_of m (dats m 0 c) (A_eq m c 1) (after_1 m c) t,
    before0_2_of m (dats m 0 c) (A_eq m c 2) (after_2 m c) t]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare (iblk m c 0 t) from by
      unfold Dat.leavesExact; rw [show cfg0.idle 0 (grid0.coords t) = false from rfl, after_0],
    show (dats m 0 c).leavesExact 1 t = owns (c : Thread nD τ) (ms0_1 t) fullShare (iblk m c 1 t) from by
      unfold Dat.leavesExact; rw [show cfg0.idle 1 (grid0.coords t) = false from rfl, after_1],
    show (dats m 0 c).leavesExact 2 t = owns (c : Thread nD τ) (ms0_2 t) fullShare (iblk m c 2 t) from by
      unfold Dat.leavesExact; rw [show cfg0.idle 2 (grid0.coords t) = false from rfl, after_2]]
  iintro ⟨⟨⟨S6, S7, S8⟩, Hr⟩, Ho, ⟨%d0, H0⟩, ⟨%d1, H1⟩, ⟨%d2, H2⟩, H3⟩
  iapply (body_run c (grid0.coords t) (ms0_0 t) (hs0_0 t) (ms0_1 t) (hs0_1 t) (ms0_2 t) (hs0_2 t) (ms0_3 t) (hs0_3 t)
    scM0_0 (Memref.isWhole_whole _) scM0_1 (Memref.isWhole_whole _) scM0_2 (Memref.isWhole_whole _) (pass t)
    (iblk m c 0 t) (iblk m c 1 t) (iblk m c 2 t))
  isplitl [H0]; · iexact H0
  isplitl [H1]; · iexact H1
  isplitl [H2]; · iexact H2
  isplitl [H3]; · iexact H3
  isplitl [S6]; · iexact S6
  isplitl [S7]; · iexact S7
  isplitl [S8]; · iexact S8
  iintro ⟨H0, H1, H2, H3, S6, S7, S8⟩
  isplitl [S6 S7 S8 Hr]
  · isplitl [S6 S7 S8]
    · isplitl [S6]; · iexact S6
      isplitl [S7]; · iexact S7
      iexact S8
    iexact Hr
  isplitl [Ho]; · iexact Ho
  isplitl [H0]; · iexact H0
  isplitl [H1]; · iexact H1
  isplitl [H2]; · iexact H2
  iexact H3

/-- The kernel's table row is its body at the point. -/
theorem defs₀_row (t : Fin cfg0.N) : defs₀ (F := F) .tc cfg0.body (cfg0.bodyArgs t (cfg0.slots t)) = bodyAt0 t := by
  unfold defs₀; rw [Defs.onTc_tc]

/-- The body obligation the launch asks for, the output's contents left open. -/
theorem body_obligation (c : Dev nD) : BodyObligation (dats m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The launch runs; its input arrays end as they were, and every counter at zero. -/
theorem run_main : θ_run defs (onTc (τ := τ) (main (F := F))) (s₀ m ρ)
    (fun r => Pipeline.RDat.FramePost (cfgs 0) (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      ((h.1 c).2 main_arg3 (Pipeline.mem_restRefs_of main_arg3 (by decide) (by decide))).trans (V_main_arg3 m c)⟩, h.2⟩) (run_main m ρ)

end Cert.Kernel.Hand

end
-- ==== Proof.Runs.lean ====
/- What the three ways through the kernel's body share, at the idealised program: the branch conditions in
   closed form over the grid's points, the staging and scratch buffers by name, and the launch's invariant
   with the scratch buffers named. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 16 — by arithmetic of the point. -/
theorem hcond0_0 : ∀ t : Fin cfg0.N, cond0_0 (grid0.coords t) ↔ t.val < 16 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 1 % 16 := Pipeline.Grid.coords_val t 1 (by decide) rfl
    simp only [cond0_0, k0_cond1, e0, e1]
    word_cmp
   : ∀ t : Fin grid0.N, cond0_0 (grid0.coords t) ↔ t.val < 16)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 16) — by arithmetic of the point. -/
theorem hcond0_1 : ∀ t : Fin cfg0.N, cond0_1 (grid0.coords t) ↔ t.val % 16 = 0 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 1 % 16 := Pipeline.Grid.coords_val t 1 (by decide) rfl
    simp only [cond0_1, e0, e1]
    word_cmp
   : ∀ t : Fin grid0.N, cond0_1 (grid0.coords t) ↔ t.val % 16 = 0)

/-- The condition of the body's `scf.if` 2 (`k0_h3`), from the grid coordinates (the skeleton's scalar
    chain substituted). -/
abbrev cond0_2 (i : grid0.Coords) : Prop := k0_cond3 i = 1#1
/-- It holds at the points from point 16 on — by arithmetic of the point. -/
theorem hcond0_2 : ∀ t : Fin cfg0.N, cond0_2 (grid0.coords t) ↔ 16 ≤ t.val :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 1 % 16 := Pipeline.Grid.coords_val t 1 (by decide) rfl
    simp only [cond0_2, k0_cond3, e0, e1]
    word_cmp
   : ∀ t : Fin grid0.N, cond0_2 (grid0.coords t) ↔ 16 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x256 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S8x256 .f32 := Memref.whole cc0_scratch0
abbrev scM0_1 : Memref sig .tc .vmem S16x8x256 .f32 := Memref.whole cc0_scratch1
abbrev scM0_2 : Memref sig .tc .vmem S16x8x256 .f32 := Memref.whole cc0_scratch2
/-- The scratch `arg6` the kernel carries between points, as a view: what it holds is stated through it. -/
abbrev VS0_0 : View sig .tc .vmem S8x256 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.Body.lean ====
/- The kernel's arithmetic as functions of vectors, over any float type: what one chunk of 128 rows
   contributes to the statistics, the statistics of one batch row, and one chunk of the output. -/
module

public import proofs.«01_k».proof.Proof.Runs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- One of the 16 chunks of 128 rows, as a part of a batch row's block. -/
theorem inb_chunk (c : Fin 16) (a : Fin S1x2048x256.rank) : (![0, 128 * c.val, 0] : Fin 3 → ℕ) a + S1x128x256.size a ≤ S1x2048x256.size a := by
  revert c a; decide

/-- The rectangle of chunk `c`. -/
abbrev chunkRect (c : Fin 16) : Rect S1x2048x256 := Rect.unit ![0, 128 * c.val, 0] S1x128x256.size (inb_chunk c)

/-- Row `k` of an 8-row table is a slice of it. -/
theorem slices_row (k : Fin 8) : S8x256.Slices ![k.val, 0] S1x256 := by
  revert k; decide

/-- Row `k` of an 8-row table, repeated down a chunk's rows. -/
def rowB (k : Fin 8) (v : FVec F S8x256 .f32) : FVec F S128x256 .f32 :=
  broadcastTo S128x256 (extractStridedSlice S1x256 ![k.val, 0] v (slices_row k)) broadcasts_S1x256_S128x256

/-- The sum of eight vectors, added left to right. -/
def sum8 {s : Shape} (f : Fin 8 → FVec F s .f32) : FVec F s .f32 :=
  addf (addf (addf (addf (addf (addf (addf (f 0) (f 1)) (f 2)) (f 3)) (f 4)) (f 5)) (f 6)) (f 7)

/-- The unnormalised weight of cluster `k` at every element of a chunk. -/
def expK (mean var : FVec F S8x256 .f32) (x : FVec F S128x256 .f32) (k : Fin 8) : FVec F S128x256 .f32 :=
  exp2 (mulf (mulf (subf x (rowB k mean)) (subf x (rowB k mean))) (rowB k (k0_pay1 var)))

/-- The reciprocal of the weights' sum plus epsilon. -/
def rcp (mean var : FVec F S8x256 .f32) (x : FVec F S128x256 .f32) : FVec F S128x256 .f32 :=
  divf (broadcast S128x256 (Scalar.ofBits .f32 0x3F800000#32))
    (addf (sum8 (expK mean var x)) (broadcast S128x256 (Scalar.ofBits .f32 0x3A83126F#32)))

/-- The normalised weight of cluster `k`. -/
def tauK (mean var : FVec F S8x256 .f32) (x : FVec F S128x256 .f32) (k : Fin 8) : FVec F S128x256 .f32 :=
  mulf (expK mean var x k) (rcp mean var x)

/-- The weighted element. -/
def tau1K (mean var : FVec F S8x256 .f32) (x : FVec F S128x256 .f32) (k : Fin 8) : FVec F S128x256 .f32 :=
  mulf (tauK mean var x k) x

/-- The weighted element squared, weighted again. -/
def tau3K (mean var : FVec F S8x256 .f32) (x : FVec F S128x256 .f32) (k : Fin 8) : FVec F S128x256 .f32 :=
  mulf (mulf (tau1K mean var x k) (tau1K mean var x k)) (tauK mean var x k)

/-- A chunk's 128 rows added in 16 groups of 8, leaving 8 rows. -/
def vsum (v : FVec F S128x256 .f32) : FVec F S8x256 .f32 :=
  multiReduction .add [0] S8x256 (shapeCast S16x8x256 v shapeCasts_S128x256_S16x8x256) 0x00000000#32 reduces_S16x8x256_S8x256 (.inl rfl) rfl

/-- The running sum of the 8-row sums over the first `n` chunks, from zero. -/
def accum (f : ℕ → FVec F S8x256 .f32) : ℕ → FVec F S8x256 .f32
  | 0 => broadcast S8x256 (Scalar.ofBits .f32 0x00000000#32)
  | n + 1 => addf (accum f n) (f n)

/-- The 8 rows of one accumulator added to one row. -/
def row1 (v : FVec F S8x256 .f32) : FVec F S1x256 .f32 :=
  shapeCast S1x256 (multiReduction .add [0] S256 v 0x00000000#32 reduces_S8x256_S256 (.inl rfl) rfl) shapeCasts_S256_S1x256

/-- Eight accumulators, one row each, stacked. -/
def fin8 (f : Fin 8 → FVec F S8x256 .f32) : FVec F S8x256 .f32 :=
  concatenate S8x256 0 [⟨S1x256, row1 (f 0)⟩, ⟨S1x256, row1 (f 1)⟩, ⟨S1x256, row1 (f 2)⟩, ⟨S1x256, row1 (f 3)⟩, ⟨S1x256, row1 (f 4)⟩, ⟨S1x256, row1 (f 5)⟩, ⟨S1x256, row1 (f 6)⟩, ⟨S1x256, row1 (f 7)⟩]
    concatenates_S1x256_S1x256_S1x256_S1x256_S1x256_S1x256_S1x256_S1x256_S8x256_d0

/-- A chunk of a batch row's block without its leading axis. -/
def chunkOf (X : Fin 16 → Vec F S1x128x256 .f32) (c : ℕ) : FVec F S128x256 .f32 :=
  shapeCast S128x256 (X (Fin.ofNat 16 c)) shapeCasts_S1x128x256_S128x256

/-- The statistic `g` of one batch row (its chunks `X`): summed over all rows, per cluster. -/
def stat (g : (x : FVec F S128x256 .f32) → Fin 8 → FVec F S128x256 .f32) (X : Fin 16 → Vec F S1x128x256 .f32) : FVec F S8x256 .f32 :=
  fin8 fun k => accum (fun c => vsum (g (chunkOf X c) k)) 16

/-- One chunk of the output from the chunk `x`, the weights `w` and the weighted means `cw`. -/
def outChunk (mean var w cw : FVec F S8x256 .f32) (x : FVec F S128x256 .f32) : FVec F S128x256 .f32 :=
  mulf (rcp mean var x) (subf (mulf x (sum8 fun k => mulf (expK mean var x k) (rowB k w))) (sum8 fun k => mulf (expK mean var x k) (rowB k cw)))

/-- The output's chunks as the writes that leave them, last first. -/
def outPieces (mean var w cw : FVec F S8x256 .f32) (X : Fin 16 → Vec F S1x128x256 .f32) : List (View.Piece (Elt F) S1x2048x256 .f32) :=
  (List.finRange 16).reverse.map fun c => ⟨chunkRect c, shapeCast S1x128x256 (outChunk mean var w cw (chunkOf X c.val)) shapeCasts_S128x256_S1x128x256⟩

end Cert.KernelIdeal.Hand

end
-- ==== Proof.Stores.lean ====
/- How a whole store and a store of one row table read back, and where the kernel's row offsets point. -/
module

public import proofs.«01_k».proof.Proof.Body
public import Idealize.ShloMosaic.Lib.WritesUnit
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The row table a first-pass point stores is table `g`. -/
theorem off1_eq (i : grid0.Coords) : k0_off1 i = ![(i 1).val, 0, 0] := by
  have h : (i 1).val < 16 := (i 1).isLt
  unfold k0_off1
  generalize (i 1).val = n at h
  interval_cases n <;> rfl

/-- The row table a second-pass point loads is table `g`. -/
theorem off2_eq (i : grid0.Coords) : k0_off2 i = ![(i 1).val, 0, 0] := by
  have h : (i 1).val < 16 := (i 1).isLt
  unfold k0_off2
  generalize (i 1).val = n at h
  interval_cases n <;> rfl

/-- The offsets of a whole 8-row table are zero. -/
theorem off_zero : (![0, 0] : Fin S8x256.rank → ℕ) = fun _ => 0 := by decide

/-- What a scratch of 16 row tables holds after table `g` has been stored over. -/
def putRow (i : grid0.Coords) (v : FVec F S8x256 .f32) (z : Vec F S16x8x256 .f32) : Vec F S16x8x256 .f32 :=
  fun y => if (y 0).val = (i 1).val then v (fun a => y a.succ) else z y

/-- A whole store of an 8-row table, last, reads back as what was stored. -/
theorem read_whole (v : View sig .tc .vmem S8x256 .f32) (f : v.ty.Contents (Elt F)) (inb) (w : S8x256.Idx → Elt F .f32)
    (L : List (View.Piece (Elt F) S8x256 .f32)) :
    v.read (Elt F) (v.writes (Elt F) f ((⟨Rect.unit ![0, 0] S8x256.size inb, w⟩ : View.Piece (Elt F) S8x256 .f32) :: L)) = w := by
  funext y
  exact View.read_writes_cons_unit_of_mem v f inb w L y y off_zero fun a => by simp

/-- A store of one row table reads back as that table put in place. -/
theorem read_putRow (i : grid0.Coords) (v : View sig .tc .vmem S16x8x256 .f32) (f : v.ty.Contents (Elt F)) (inb)
    (w : FVec F S8x256 .f32) (h : S8x256.ShapeCasts S1x8x256) :
    v.read (Elt F) (v.writes (Elt F) f [(⟨Rect.unit (k0_off1 i) S1x8x256.size inb, shapeCast S1x8x256 w h⟩ : View.Piece (Elt F) S16x8x256 .f32)])
      = putRow i w (v.read (Elt F) f) := by
  funext y
  unfold putRow
  have h1 : (y 1).val < 8 := (y 1).isLt
  have h2 : (y 2).val < 256 := (y 2).isLt
  split
  · next hy =>
    refine (View.read_writes_cons_unit_of_mem v f inb _ [] y (Fin.cons (⟨0, by decide⟩ : Fin 1) (fun a : Fin 2 => y a.succ)) (off1_eq i) ?_).trans ?_
    · intro a
      fin_cases a
      · exact hy
      · exact (Nat.zero_add _).symm
      · exact (Nat.zero_add _).symm
    · exact shapeCast_addUnit_apply ![8, 256] w h _
  · next hy =>
    refine (View.read_writes_cons_unit_of_not_mem v f inb _ [] y (off1_eq i) 0 ?_).trans rfl
    show (y 0).val < (i 1).val ∨ (i 1).val + 1 ≤ (y 0).val
    omega

/-- Table `g` of a scratch of row tables. -/
def getRow (i : grid0.Coords) (z : Vec F S16x8x256 .f32) : FVec F S8x256 .f32 :=
  fun y => z (Fin.cons (i 1) y)

/-- A load of one row table is that table. -/
theorem ld_getRow (i : grid0.Coords) (z : Vec F S16x8x256 .f32) (inb) (h : S1x8x256.ShapeCasts S8x256) :
    shapeCast S8x256 (View.ld (Val := Elt F) (e' := .f32) z (Rect.unit (k0_off2 i) S1x8x256.size inb)) h = getRow i z := by
  funext y
  refine (shapeCast_dropUnit_apply ![8, 256] _ h y).trans ?_
  unfold View.ld getRow
  congr 1
  have e := off2_eq i
  funext a
  apply Fin.ext
  fin_cases a
  · show k0_off2 i 0 + 1 * 0 = (i 1).val
    rw [e]; rfl
  · show k0_off2 i 1 + 1 * (y 0).val = (y 0).val
    rw [e]; exact (Nat.zero_add _).trans (Nat.one_mul _)
  · show k0_off2 i 2 + 1 * (y 1).val = (y 1).val
    rw [e]; exact (Nat.zero_add _).trans (Nat.one_mul _)

/-- The chunks of a batch row's block. -/
abbrev chunks (x0 : Vec F S1x2048x256 .f32) (c : Fin 16) : Vec F S1x128x256 .f32 := View.ld x0 (chunkRect c)

/-- A load of a whole 8-row table is the table. -/
theorem ld_whole (x : Vec F S8x256 .f32) (inb) : View.ld (Val := Elt F) (e' := .f32) x (Rect.unit ![0, 0] S8x256.size inb) = x :=
  View.ld_unit_zero off_zero inb x

end Cert.KernelIdeal.Hand

end
-- ==== Proof.Phase0.lean ====
/- The kernel's body at a point of the first pass, where it gathers the statistics of one batch row: run once
   on whole buffers, its results stated by the functions of `Body`. -/
module

public import proofs.«01_k».proof.Proof.Stores

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The running weight sums a first-pass point starts from: zero at the grid's first point. -/
def sumFrom (i : grid0.Coords) (x6 : Vec F S8x256 .f32) : FVec F S8x256 .f32 :=
  open Classical in if cond0_1 i then broadcast S8x256 (Scalar.ofBits .f32 0x00000000#32) else x6

set_option maxHeartbeats 4000000 in
/-- The body at a point of the first pass: it adds the batch row's weight sums to the running ones and stores
    the row's two other statistics in its own row tables. -/
theorem phase0 (c : Dev nD) (i : grid0.Coords) (arg2 : Memref sig .tc .vmem S1x2048x256 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S1x2048x256 .f32) (harg5 : arg5.IsWhole) (arg6 : Memref sig .tc .vmem S8x256 .f32) (harg6 : arg6.IsWhole) (arg7 : Memref sig .tc .vmem S16x8x256 .f32) (harg7 : arg7.IsWhole) (arg8 : Memref sig .tc .vmem S16x8x256 .f32) (harg8 : arg8.IsWhole) (hc0 : cond0_0 i) (hc2 : ¬cond0_2 i)
    (x0 : Vec F S1x2048x256 .f32) (x1 : Vec F S8x256 .f32) (x2 : Vec F S8x256 .f32) (x5 : Vec F S1x2048x256 .f32) (x6 : Vec F S8x256 .f32) (x7 x8 : Vec F S16x8x256 .f32)
      (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x5 ∗ owns (c : Thread nD τ) arg6 fullShare x6 ∗ owns (c : Thread nD τ) arg7 fullShare x7 ∗ owns (c : Thread nD τ) arg8 fullShare x8
            ∗ (iprop(owns (c : Thread nD τ) arg2 fullShare x0 ∗ owns (c : Thread nD τ) arg3 fullShare x1 ∗ owns (c : Thread nD τ) arg4 fullShare x2 ∗ owns (c : Thread nD τ) arg5 fullShare x5
                ∗ owns (c : Thread nD τ) arg6 fullShare (addf (sumFrom i x6) (stat (tauK x1 x2) (chunks x0)))
                ∗ owns (c : Thread nD τ) arg7 fullShare (putRow i (stat (tau1K x1 x2) (chunks x0)) x7)
                ∗ owns (c : Thread nD τ) arg8 fullShare (putRow i (stat (tau3K x1 x2) (chunks x0)) x8)) -∗ K ⟨⟩))
          ⊢ wp frame (wpE (defs₀ (F := F)) Variants.none c none) E (cc0_ucb_norm i arg2 harg2 arg3 harg3 arg4 harg4 arg5 harg5 arg6 harg6 arg7 harg7 arg8 harg8) K := by
  simp only [cc0_ucb_norm_eq_skeleton]; unfold cc0_ucb_norm_skel
  simp only [k0_part59_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton]
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, Hk⟩
  subst hf0 hf1 hf2 hf3 hf6 hf7 hf8
  by_cases hc1 : cond0_1 i
  all_goals
    sl_exec (disch := first | sl_exact hc0 | sl_exact hc1 | sl_exact hc2)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H6]
    · iexists _; isplitr; swap; · iexact H6
      ipureintro
      refine (read_whole _ _ _ _ _).trans ?_
      first
      | unfold sumFrom
        rw [if_pos hc1]
        refine Eq.trans (b := shapeCast S8x256 (addf (View.readCov arg6.view [(⟨Rect.unit ![0, 0] S8x256.size inb_S8x256_S8x256_0_0, shapeCast S8x256 (broadcast S8x256 (Scalar.ofBits .f32 0x00000000#32)) shapeCasts_S8x256_S8x256⟩ : View.Piece (Elt F) S8x256 .f32)] (Rect.unit ![0, 0] S8x256.size inb_S8x256_S8x256_0_0).toLoadRect)
          (stat (tauK (View.ld (arg3.view.read (Elt F) f1) (Rect.unit ![0, 0] S8x256.size inb_S8x256_S8x256_0_0)) (View.ld (arg4.view.read (Elt F) f2) (Rect.unit ![0, 0] S8x256.size inb_S8x256_S8x256_0_0))) (chunks (arg2.view.read (Elt F) f0)))) shapeCasts_S8x256_S8x256) (by sl_kernel_rfl) ?_
        refine (shapeCast_self (s := S8x256) _ _).trans ?_
        rw [ld_whole, ld_whole, View.readCov_unit_zero _ off_zero]
        exact congrArg (fun z => addf z _) (shapeCast_self (s := S8x256) _ _)
      | unfold sumFrom
        rw [if_neg hc1]
        refine Eq.trans (b := shapeCast S8x256 (addf (View.ld (arg6.view.read (Elt F) f6) (Rect.unit ![0, 0] S8x256.size inb_S8x256_S8x256_0_0))
          (stat (tauK (View.ld (arg3.view.read (Elt F) f1) (Rect.unit ![0, 0] S8x256.size inb_S8x256_S8x256_0_0)) (View.ld (arg4.view.read (Elt F) f2) (Rect.unit ![0, 0] S8x256.size inb_S8x256_S8x256_0_0))) (chunks (arg2.view.read (Elt F) f0)))) shapeCasts_S8x256_S8x256) (by sl_kernel_rfl) ?_
        refine (shapeCast_self (s := S8x256) _ _).trans ?_
        rw [ld_whole, ld_whole, ld_whole]
    isplitl [H7]
    · iexists _; isplitr; swap; · iexact H7
      ipureintro
      refine Eq.trans (congrArg (fun w => arg7.view.read (Elt F) (arg7.view.writes (Elt F) f7 [(⟨Rect.unit (k0_off1 i) S1x8x256.size (k0_off1_inb i hc0), w⟩ : View.Piece (Elt F) S16x8x256 .f32)])) (?_ : _ = shapeCast S1x8x256 (stat (tau1K (View.ld (arg3.view.read (Elt F) f1) (Rect.unit ![0, 0] S8x256.size inb_S8x256_S8x256_0_0)) (View.ld (arg4.view.read (Elt F) f2) (Rect.unit ![0, 0] S8x256.size inb_S8x256_S8x256_0_0))) (chunks (arg2.view.read (Elt F) f0))) shapeCasts_S8x256_S1x8x256)) ?_
      · sl_kernel_rfl
      · rw [ld_whole, ld_whole]; exact read_putRow i arg7.view f7 _ _ _
    iexists _; isplitr; swap; · iexact H8
    ipureintro
    refine Eq.trans (congrArg (fun w => arg8.view.read (Elt F) (arg8.view.writes (Elt F) f8 [(⟨Rect.unit (k0_off1 i) S1x8x256.size (k0_off1_inb i hc0), w⟩ : View.Piece (Elt F) S16x8x256 .f32)])) (?_ : _ = shapeCast S1x8x256 (stat (tau3K (View.ld (arg3.view.read (Elt F) f1) (Rect.unit ![0, 0] S8x256.size inb_S8x256_S8x256_0_0)) (View.ld (arg4.view.read (Elt F) f2) (Rect.unit ![0, 0] S8x256.size inb_S8x256_S8x256_0_0))) (chunks (arg2.view.read (Elt F) f0))) shapeCasts_S8x256_S1x8x256)) ?_
    · sl_kernel_rfl
    · rw [ld_whole, ld_whole]; exact read_putRow i arg8.view f8 _ _ _

end Cert.KernelIdeal.Hand

end
-- ==== Proof.Phase1.lean ====
/- The kernel's body at a point of the second pass, where it writes one batch row of the output from the
   gathered statistics: run once on whole buffers, its result stated by the functions of `Body`. -/
module

public import proofs.«01_k».proof.Proof.Phase0

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The weight of every cluster, from the weight sums `s` and the row's cubic statistic `a3`. -/
def wOf (s a3 : FVec F S8x256 .f32) : FVec F S8x256 .f32 := k0_pay914 s (shapeCast S1x8x256 a3 shapeCasts_S8x256_S1x8x256)

/-- The weighted mean of every cluster. -/
def cwOf (s a1 a3 : FVec F S8x256 .f32) : FVec F S8x256 .f32 :=
  k0_pay915 s (shapeCast S1x8x256 a1 shapeCasts_S8x256_S1x8x256) (shapeCast S1x8x256 a3 shapeCasts_S8x256_S1x8x256)

/-- Element `(a, b)` of a chunk. -/
def ix2 (a : Fin 128) (b : Fin 256) : S128x256.Idx := Fin.cons a (Fin.cons b (fun i => i.elim0))

/-- One batch row of the output. -/
def outBlock (mean var w cw : FVec F S8x256 .f32) (X : Fin 16 → Vec F S1x128x256 .f32) : Vec F S1x2048x256 .f32 :=
  fun y => outChunk mean var w cw (chunkOf X ((y 1).val / 128)) (ix2 ⟨(y 1).val % 128, Nat.mod_lt _ (by decide)⟩ (y 2))

/-- The chunks' writes together leave the batch row. -/
theorem read_outPieces (v : View sig .tc .vmem S1x2048x256 .f32) (f : v.ty.Contents (Elt F)) (mean var w cw : FVec F S8x256 .f32)
    (X : Fin 16 → Vec F S1x128x256 .f32) :
    v.read (Elt F) (v.writes (Elt F) f (outPieces mean var w cw X)) = outBlock mean var w cw X := by
  have hcov : ∀ y : S1x2048x256.Idx, ∃ p ∈ outPieces mean var w cw X, y ∈ p.1.set := by
    intro y
    have h0 : (y 0).val < 1 := (y 0).isLt
    have h1 : (y 1).val < 2048 := (y 1).isLt
    have h2 : (y 2).val < 256 := (y 2).isLt
    refine ⟨_, List.mem_map.mpr ⟨⟨(y 1).val / 128, by omega⟩, by simp, rfl⟩, ?_⟩
    rw [Rect.mem_set_unit]
    intro a
    fin_cases a
    · exact ⟨Nat.zero_le _, by show (y 0).val < 0 + 1; omega⟩
    · exact ⟨by show 128 * ((y 1).val / 128) ≤ (y 1).val; omega, by show (y 1).val < 128 * ((y 1).val / 128) + 128; omega⟩
    · exact ⟨Nat.zero_le _, by show (y 2).val < 0 + 256; omega⟩
  haveI : ∀ e, Nonempty (Elt F e) := fun e => inferInstance
  rw [View.read_writes_eq_canon v f _ hcov]
  funext y
  refine View.canon_apply_of_pieces _ _ ?_ y (hcov y)
  intro p hp x
  obtain ⟨k, -, rfl⟩ := List.mem_map.mp hp
  have x1 : (x 1).val < 128 := (x 1).isLt
  refine (shapeCast_addUnit_apply ![128, 256] (outChunk mean var w cw (chunkOf X k.val)) shapeCasts_S128x256_S1x128x256 x).trans ?_
  have e1 : (((chunkRect k).emb x) 1).val = 128 * k.val + (x 1).val := by
    show 128 * k.val + 1 * (x 1).val = _; omega
  have e2 : (((chunkRect k).emb x) 2).val = (x 2).val := by
    show 0 + 1 * (x 2).val = _; omega
  have hq : (((chunkRect k).emb x) 1).val / 128 = k.val := by rw [e1]; omega
  show _ = outChunk mean var w cw (chunkOf X ((((chunkRect k).emb x) 1).val / 128)) _
  rw [hq]
  congr 1
  funext a
  apply Fin.ext
  fin_cases a
  · show (x 1).val = (((chunkRect k).emb x) 1).val % 128
    rw [e1]; omega
  · exact e2.symm

set_option maxHeartbeats 4000000 in
/-- The body at a point of the second pass. -/
theorem phase1 (c : Dev nD) (i : grid0.Coords) (arg2 : Memref sig .tc .vmem S1x2048x256 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S1x2048x256 .f32) (harg5 : arg5.IsWhole) (arg6 : Memref sig .tc .vmem S8x256 .f32) (harg6 : arg6.IsWhole) (arg7 : Memref sig .tc .vmem S16x8x256 .f32) (harg7 : arg7.IsWhole) (arg8 : Memref sig .tc .vmem S16x8x256 .f32) (harg8 : arg8.IsWhole) (hc0 : ¬cond0_0 i) (hc2 : cond0_2 i)
    (x0 : Vec F S1x2048x256 .f32) (x1 : Vec F S8x256 .f32) (x2 : Vec F S8x256 .f32) (x6 : Vec F S8x256 .f32) (x7 x8 : Vec F S16x8x256 .f32)
      (E : Set ℕ) (K : PUnit → sProp 𝕄) :
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare x6 ∗ owns (c : Thread nD τ) arg7 fullShare x7 ∗ owns (c : Thread nD τ) arg8 fullShare x8
            ∗ (iprop(owns (c : Thread nD τ) arg2 fullShare x0 ∗ owns (c : Thread nD τ) arg3 fullShare x1 ∗ owns (c : Thread nD τ) arg4 fullShare x2
                ∗ owns (c : Thread nD τ) arg5 fullShare (outBlock x1 x2 (wOf x6 (getRow i x8)) (cwOf x6 (getRow i x7) (getRow i x8)) (chunks x0))
                ∗ owns (c : Thread nD τ) arg6 fullShare x6
                ∗ owns (c : Thread nD τ) arg7 fullShare x7
                ∗ owns (c : Thread nD τ) arg8 fullShare x8) -∗ K ⟨⟩))
          ⊢ wp frame (wpE (defs₀ (F := F)) Variants.none c none) E (cc0_ucb_norm i arg2 harg2 arg3 harg3 arg4 harg4 arg5 harg5 arg6 harg6 arg7 harg7 arg8 harg8) K := by
  simp only [cc0_ucb_norm_eq_skeleton]; unfold cc0_ucb_norm_skel
  simp only [k0_part101_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton]
  unfold owns
  iintro ⟨⟨%f0, %hf0, H0⟩, ⟨%f1, %hf1, H1⟩, ⟨%f2, %hf2, H2⟩, ⟨%d3, %f3, -, H3⟩, ⟨%f6, %hf6, H6⟩, ⟨%f7, %hf7, H7⟩, ⟨%f8, %hf8, H8⟩, Hk⟩
  subst hf0 hf1 hf2 hf6 hf7 hf8
  sl_exec (disch := first | sl_exact hc0 | sl_exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; swap; · iexact H3
    ipureintro
    refine Eq.trans (congrArg (fun L => arg5.view.read (Elt F) (arg5.view.writes (Elt F) f3 L)) (?_ : _ = outPieces (View.ld (arg3.view.read (Elt F) f1) (Rect.unit ![0, 0] S8x256.size inb_S8x256_S8x256_0_0)) (View.ld (arg4.view.read (Elt F) f2) (Rect.unit ![0, 0] S8x256.size inb_S8x256_S8x256_0_0))
      (k0_pay914 (View.ld (arg6.view.read (Elt F) f6) (Rect.unit ![0, 0] S8x256.size inb_S8x256_S8x256_0_0)) (View.ld (Val := Elt F) (e' := .f32) (arg8.view.read (Elt F) f8) (Rect.unit (k0_off2 i) S1x8x256.size (k0_off2_inb i hc2)))) (k0_pay915 (View.ld (arg6.view.read (Elt F) f6) (Rect.unit ![0, 0] S8x256.size inb_S8x256_S8x256_0_0)) (View.ld (Val := Elt F) (e' := .f32) (arg7.view.read (Elt F) f7) (Rect.unit (k0_off2 i) S1x8x256.size (k0_off2_inb i hc2))) (View.ld (Val := Elt F) (e' := .f32) (arg8.view.read (Elt F) f8) (Rect.unit (k0_off2 i) S1x8x256.size (k0_off2_inb i hc2)))) (chunks (arg2.view.read (Elt F) f0)))) ?_
    · sl_kernel_rfl
    · rw [read_outPieces, ld_whole, ld_whole, ld_whole]
      unfold wOf cwOf
      rw [← ld_getRow i (arg7.view.read (Elt F) f7) (k0_off2_inb i hc2) shapeCasts_S1x8x256_S8x256,
        ← ld_getRow i (arg8.view.read (Elt F) f8) (k0_off2_inb i hc2) shapeCasts_S1x8x256_S8x256]
      rw [shapeCast_shapeCast, shapeCast_shapeCast]
  isplitl [H6]
  · iexists _; isplitr; · ipureintro; rfl
    iexact H6
  isplitl [H7]
  · iexists _; isplitr; · ipureintro; rfl
    iexact H7
  iexists _; isplitr; · ipureintro; rfl
  iexact H8

end Cert.KernelIdeal.Hand

end
-- ==== Proof.Launch.lean ====
/- The launch: what the scratch buffers carry between the grid's points, the body obligation from the two
   passes' runs, and the run of the whole program. -/
module

public import proofs.«01_k».proof.Proof.Phase1

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the scratch buffers carry from point to point -/

/-- The first-pass point of batch row `g`. -/
def pt (g : ℕ) : Fin cfg0.N := ⟨g % 32, Nat.lt_of_lt_of_eq (Nat.mod_lt _ (by decide)) N_0.symm⟩

/-- A point below the end is its own. -/
theorem pt_val (t : Fin cfg0.N) : pt t.val = t := Fin.ext (Nat.mod_eq_of_lt (Nat.lt_of_lt_of_eq t.isLt N_0))

/-- A statistic of the batch row a point reads. -/
def statAt (g : FVec F S8x256 .f32 → FVec F S8x256 .f32 → FVec F S128x256 .f32 → Fin 8 → FVec F S128x256 .f32)
    (c : Dev nD) (t : Fin cfg0.N) : FVec F S8x256 .f32 :=
  stat (g (iblk m c 1 t) (iblk m c 2 t)) (chunks (iblk m c 0 t))

/-- The weight sums over the first `n` batch rows. -/
def sAt (c : Dev nD) : ℕ → FVec F S8x256 .f32
  | 0 => broadcast S8x256 (Scalar.ofBits .f32 0x00000000#32)
  | n + 1 => addf (sAt c n) (statAt m tauK c (pt n))

/-- A scratch of row tables holds, for each of the first `n` batch rows, that row's statistic. -/
def RowsTo (g : FVec F S8x256 .f32 → FVec F S8x256 .f32 → FVec F S128x256 .f32 → Fin 8 → FVec F S128x256 .f32)
    (c : Dev nD) (n : ℕ) (z : Vec F S16x8x256 .f32) : Prop :=
  ∀ (k : Fin 16), k.val < n → ∀ y : S8x256.Idx, z (Fin.cons k y) = statAt m g c (pt k.val) y

/-- Storing the next row's statistic extends the rows held by one. -/
theorem RowsTo_putRow (g) (c : Dev nD) (t : Fin cfg0.N) (ht : t.val < 16) (z : Vec F S16x8x256 .f32) (h : RowsTo m g c t.val z) :
    RowsTo m g c (t.val + 1) (putRow (grid0.coords t) (statAt m g c t) z) := by
  intro k hk y
  have e1 : (grid0.coords t 1).val = t.val / 1 % 16 := Pipeline.Grid.coords_val t 1 (by decide) rfl
  rw [Nat.div_one, Nat.mod_eq_of_lt ht] at e1
  unfold putRow
  split
  · next hy =>
    have hk' : k.val = t.val := by
      have : k.val = (grid0.coords t 1).val := hy
      omega
    rw [hk', pt_val]; rfl
  · next hy =>
    refine h k ?_ y
    have : k.val ≠ (grid0.coords t 1).val := hy
    omega

/-- At a second-pass point the row table loaded is the statistic of the batch row the point reads. -/
theorem getRow_of_RowsTo (g) (c : Dev nD) (t : Fin cfg0.N) (ht : 16 ≤ t.val) (z : Vec F S16x8x256 .f32) (h : RowsTo m g c t.val z) :
    getRow (grid0.coords t) z = statAt m g c (pt (t.val % 16)) := by
  funext y
  have e1 : (grid0.coords t 1).val = t.val / 1 % 16 := Pipeline.Grid.coords_val t 1 (by decide) rfl
  rw [Nat.div_one] at e1
  have hlt : (grid0.coords t 1).val < 16 := (grid0.coords t 1).isLt
  refine (h (grid0.coords t 1) (by omega) y).trans ?_
  rw [e1]

/-- The running sums a first-pass point starts from are those over the rows before it. -/
theorem sumFrom_eq (c : Dev nD) (t : Fin cfg0.N) (ht : t.val < 16) (z : Vec F S8x256 .f32) (h : t.val ≠ 0 → z = sAt m c (min t.val 16)) :
    addf (sumFrom (grid0.coords t) z) (statAt m tauK c t) = sAt m c (min (t.val + 1) 16) := by
  rw [Nat.min_eq_left (by omega)]
  show _ = addf (sAt m c t.val) (statAt m tauK c (pt t.val))
  rw [pt_val]
  congr 1
  unfold sumFrom
  by_cases h0 : t.val = 0
  · rw [if_pos ((hcond0_1 t).mpr (by omega)), h0]; rfl
  · rw [if_neg (fun hc => h0 (by have := (hcond0_1 t).mp hc; omega)), h h0, Nat.min_eq_left (by omega)]

/-- The output row a second-pass point writes. -/
def outAt (c : Dev nD) (t : Fin cfg0.N) : Vec F S1x2048x256 .f32 :=
  outBlock (iblk m c 1 t) (iblk m c 2 t) (wOf (sAt m c 16) (statAt m tau3K c (pt (t.val % 16))))
    (cwOf (sAt m c 16) (statAt m tau1K c (pt (t.val % 16))) (statAt m tau3K c (pt (t.val % 16)))) (chunks (iblk m c 0 t))

/-- What the launch keeps between points: the three scratch buffers, filled as far as the points before `n`
    fill them, and the random-number register. -/
def PhiH (c : Dev nD) (n : ℕ) : sProp 𝕄 :=
  iprop(((∃ z, ⌜n ≠ 0 → z = sAt m c (min n 16)⌝ ∗ owns (c : Thread nD τ) scM0_0 fullShare z)
    ∗ (∃ z, ⌜RowsTo m tau1K c n z⌝ ∗ owns (c : Thread nD τ) scM0_1 fullShare z)
    ∗ (∃ z, ⌜RowsTo m tau3K c n z⌝ ∗ owns (c : Thread nD τ) scM0_2 fullShare z)) ∗ (∃ r, prngReg c r))

/-! ## The proof data of the launch -/

/-- Each window's array as launched, each input block left in place, and the output rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiH m c t.val
  q _ := fullShare
  owed _ := 0

theorem A_eq (c : Dev nD) (w : Fin cfg0.W) : (dats m 0 c).A w = V m c (Pipeline.arrRef spec0 w) := by dsimp only [dats]
theorem after0_0 (c : Dev nD) (t) : (dats m 0 c).after 0 t = iblk m c 0 t := by dsimp only [dats]
theorem after0_1 (c : Dev nD) (t) : (dats m 0 c).after 1 t = iblk m c 1 t := by dsimp only [dats]
theorem after0_2 (c : Dev nD) (t) : (dats m 0 c).after 2 t = iblk m c 2 t := by dsimp only [dats]
theorem after0_3 (c : Dev nD) (t) : (dats m 0 c).after 3 t = outAt m c t := by dsimp only [dats]
theorem before0_0 (c : Dev nD) (t d) : (dats m 0 c).before 0 t d = iblk m c 0 t := before0_0_of m (dats m 0 c) (A_eq m c 0) (after0_0 m c) t d
theorem before0_1 (c : Dev nD) (t d) : (dats m 0 c).before 1 t d = iblk m c 1 t := before0_1_of m (dats m 0 c) (A_eq m c 1) (after0_1 m c) t d
theorem before0_2 (c : Dev nD) (t d) : (dats m 0 c).before 2 t d = iblk m c 2 t := before0_2_of m (dats m 0 c) (A_eq m c 2) (after0_2 m c) t d

/-- The output window is idle at the first pass's points. -/
theorem idle0_3 (t : Fin cfg0.N) (ht : t.val < 16) : cfg0.idle 3 (grid0.coords t) = true := by
  have h : ¬ cond0_2 (grid0.coords t) := fun h => by have := (hcond0_2 t).mp h; omega
  show (!decide (k0_cond3 (grid0.coords t) = 1#1)) = true
  rw [decide_eq_false h]; rfl
/-- The output window is written at the second pass's points. -/
theorem live0_3 (t : Fin cfg0.N) (ht : 16 ≤ t.val) : cfg0.idle 3 (grid0.coords t) = false := by
  show (!decide (k0_cond3 (grid0.coords t) = 1#1)) = false
  rw [decide_eq_true ((hcond0_2 t).mpr ht)]; rfl
set_option maxHeartbeats 2000000 in
/-- The output window is written back at the second pass's points only. -/
theorem flush0_3 : ∀ t : Fin cfg0.N, (cfg0.win 3).flush t = true ↔ 16 ≤ t.val :=
  (by decide : ∀ t : Fin grid0.N, Pipeline.Window.flushOf grid0 true cc0_transform_3 t = true ↔ 16 ≤ t.val)

/-! ## The body obligation -/

/-- Held when the body runs at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- Held when it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

set_option maxHeartbeats 1000000 in
/-- The body at any point: the first pass's run or the second's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiH m c (t.val + 1) from rfl, show (dats m 0 c).Φ t.castSucc = PhiH m c t.val from rfl]
  rw [show (dats m 0 c).leavesExact 0 t = owns (c : Thread nD τ) (ms0_0 t) fullShare (iblk m c 0 t) from by
      unfold Dat.leavesExact; rw [liveAt0_0 t, after0_0],
    show (dats m 0 c).leavesExact 1 t = owns (c : Thread nD τ) (ms0_1 t) fullShare (iblk m c 1 t) from by
      unfold Dat.leavesExact; rw [liveAt0_1 t, after0_1],
    show (dats m 0 c).leavesExact 2 t = owns (c : Thread nD τ) (ms0_2 t) fullShare (iblk m c 2 t) from by
      unfold Dat.leavesExact; rw [liveAt0_2 t, after0_2]]
  unfold PhiH
  by_cases ht : t.val < 16
  · rw [Dat.leavesExact_idle (dats m 0 c) 3 t (idle0_3 t ht)
      (by cases hf : (cfg0.win 3).flush t with
          | false => rfl
          | true => exact absurd ((flush0_3 t).mp hf) (by omega))]
    iintro ⟨⟨⟨⟨%z6, %h6, S6⟩, ⟨%z7, %h7, S7⟩, ⟨%z8, %h8, S8⟩⟩, Hr⟩, Ho, ⟨%d0, H0⟩, ⟨%d1, H1⟩, ⟨%d2, H2⟩, ⟨%d3, H3⟩⟩
    iapply (phase0 c (grid0.coords t) (ms0_0 t) (hs0_0 t) (ms0_1 t) (hs0_1 t) (ms0_2 t) (hs0_2 t) (ms0_3 t) (hs0_3 t)
      scM0_0 (Memref.isWhole_whole _) scM0_1 (Memref.isWhole_whole _) scM0_2 (Memref.isWhole_whole _)
      ((hcond0_0 t).mpr ht) (fun h => absurd ((hcond0_2 t).mp h) (by omega)) (iblk m c 0 t) (iblk m c 1 t) (iblk m c 2 t) _ z6 z7 z8)
    isplitl [H0]; · iexact H0
    isplitl [H1]; · iexact H1
    isplitl [H2]; · iexact H2
    isplitl [H3]; · iexact H3
    isplitl [S6]; · iexact S6
    isplitl [S7]; · iexact S7
    isplitl [S8]; · iexact S8
    iintro ⟨H0, H1, H2, H3, S6, S7, S8⟩
    isplitl [S6 S7 S8 Hr]
    · isplitl [S6 S7 S8]
      · isplitl [S6]
        · iexists _; isplitr; swap; · iexact S6
          ipureintro; intro _; exact sumFrom_eq m c t ht z6 h6
        isplitl [S7]
        · iexists _; isplitr; swap; · iexact S7
          ipureintro; exact RowsTo_putRow m tau1K c t ht z7 h7
        iexists _; isplitr; swap; · iexact S8
        ipureintro; exact RowsTo_putRow m tau3K c t ht z8 h8
      iexact Hr
    isplitl [Ho]; · iexact Ho
    isplitl [H0]; · iexact H0
    isplitl [H1]; · iexact H1
    isplitl [H2]; · iexact H2
    iexists _; iexact H3
  · have ht' : 16 ≤ t.val := by omega
    rw [show (dats m 0 c).leavesExact 3 t = owns (c : Thread nD τ) (ms0_3 t) fullShare (outAt m c t) from by
      unfold Dat.leavesExact; rw [live0_3 t ht', after0_3]]
    iintro ⟨⟨⟨⟨%z6, %h6, S6⟩, ⟨%z7, %h7, S7⟩, ⟨%z8, %h8, S8⟩⟩, Hr⟩, Ho, ⟨%d0, H0⟩, ⟨%d1, H1⟩, ⟨%d2, H2⟩, ⟨%d3, H3⟩⟩
    iapply (phase1 c (grid0.coords t) (ms0_0 t) (hs0_0 t) (ms0_1 t) (hs0_1 t) (ms0_2 t) (hs0_2 t) (ms0_3 t) (hs0_3 t)
      scM0_0 (Memref.isWhole_whole _) scM0_1 (Memref.isWhole_whole _) scM0_2 (Memref.isWhole_whole _)
      (fun h => absurd ((hcond0_0 t).mp h) ht) ((hcond0_2 t).mpr ht') (iblk m c 0 t) (iblk m c 1 t) (iblk m c 2 t) z6 z7 z8)
    isplitl [H0]; · iexact H0
    isplitl [H1]; · iexact H1
    isplitl [H2]; · iexact H2
    isplitl [H3]; · iexists _; iexact H3
    isplitl [S6]; · iexact S6
    isplitl [S7]; · iexact S7
    isplitl [S8]; · iexact S8
    have e6 : z6 = sAt m c 16 := by rw [h6 (by omega), Nat.min_eq_right ht']
    rw [getRow_of_RowsTo m tau1K c t ht' z7 h7, getRow_of_RowsTo m tau3K c t ht' z8 h8, e6]
    iintro ⟨H0, H1, H2, H3, S6, S7, S8⟩
    isplitl [S6 S7 S8 Hr]
    · isplitl [S6 S7 S8]
      · isplitl [S6]
        · iexists _; isplitr; swap; · iexact S6
          ipureintro; intro _; rw [Nat.min_eq_right (by omega)]
        isplitl [S7]
        · iexists _; isplitr; swap; · iexact S7
          ipureintro; intro k hk y; exact h7 k (by have := k.isLt; omega) y
        iexists _; isplitr; swap; · iexact S8
        ipureintro; intro k hk y; exact h8 k (by have := k.isLt; omega) y
      iexact Hr
    isplitl [Ho]; · iexact Ho
    isplitl [H0]; · iexact H0
    isplitl [H1]; · iexact H1
    isplitl [H2]; · iexact H2
    iexact H3

/-- The kernel's table row is its body at the point. -/
theorem defs₀_row (t : Fin cfg0.N) : defs₀ (F := F) .tc cfg0.body (cfg0.bodyArgs t (cfg0.slots t)) = bodyAt0 t := by
  unfold defs₀; rw [Defs.onTc_tc]

/-- The body obligation the launch asks for. -/
theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

/-- The scratch buffers as allocated satisfy the invariant before the first point. -/
theorem hin (c : Dev nD) : Pipeline.ΦA spec0 c ⊢ (dats m 0 c).Φ 0 := by
  rw [PhiA0_eq, show (dats m 0 c).Φ 0 = PhiH m c 0 from rfl]
  unfold PhiH
  iintro ⟨⟨⟨%z6, S6⟩, ⟨%z7, S7⟩, ⟨%z8, S8⟩⟩, Hr⟩
  isplitl [S6 S7 S8]
  · isplitl [S6]
    · iexists _; isplitr; swap; · iexact S6
      ipureintro; intro h; exact absurd rfl h
    isplitl [S7]
    · iexists _; isplitr; swap; · iexact S7
      ipureintro; intro k hk; exact absurd hk (Nat.not_lt_zero _)
    iexists _; isplitr; swap; · iexact S8
    ipureintro; intro k hk; exact absurd hk (Nat.not_lt_zero _)
  iexact Hr

/-- The invariant after the last point gives the scratch buffers back. -/
theorem hout (c : Dev nD) : (dats m 0 c).Φ (Fin.last cfg0.N) ⊢ Pipeline.ΦA spec0 c := by
  rw [PhiA0_eq, show (dats m 0 c).Φ (Fin.last cfg0.N) = PhiH m c cfg0.N from rfl]
  unfold PhiH
  iintro ⟨⟨⟨%z6, -, S6⟩, ⟨%z7, -, S7⟩, ⟨%z8, -, S8⟩⟩, Hr⟩
  isplitl [S6 S7 S8]
  · isplitl [S6]
    · iexists _; iexact S6
    isplitl [S7]
    · iexists _; iexact S7
    iexists _; iexact S8
  iexact Hr

set_option backward.isDefEq.respectTransparency.types false in
/-- The whole program runs, leaving every windowed array at what its write-backs make of it. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.KernelIdeal.Hand

end
-- ==== Proof.Value.lean ====
/- The output array after the run, element by element, as what the second pass wrote there.  -/
module

public import proofs.«01_k».proof.Proof.Launch

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Where the windows' blocks lie -/

/-- The input batch row read at point `t` is row `t mod 16`. -/
theorem index0_0 : ∀ t : Fin grid0.N, cc0_transform_0 (grid0.coords t) = ![t.val % 16, 0, 0] := by decide +kernel
/-- The mean table is read whole at every point. -/
theorem index0_1 : ∀ t : Fin grid0.N, cc0_transform_1 (grid0.coords t) = ![0, 0] := by decide +kernel
/-- The variance table is read whole at every point. -/
theorem index0_2 : ∀ t : Fin grid0.N, cc0_transform_2 (grid0.coords t) = ![0, 0] := by decide +kernel
/-- The output batch row written at a second-pass point is row `t - 16`. -/
theorem index0_3 : ∀ t : Fin grid0.N, 16 ≤ t.val → cc0_transform_3 (grid0.coords t) = ![t.val - 16, 0, 0] := by decide +kernel

/-- Index `(b, t, d)` of the big arrays. -/
def ix3 (b : Fin 16) (t : Fin 2048) (d : Fin 256) : S16x2048x256.Idx := Fin.cons b (Fin.cons t (Fin.cons d (fun i => i.elim0)))

/-- Index `(0, t, d)` of a batch row's block. -/
def ixb (t : Fin 2048) (d : Fin 256) : S1x2048x256.Idx := Fin.cons (⟨0, Nat.one_pos⟩ : Fin 1) (Fin.cons t (Fin.cons d (fun i => i.elim0)))

/-- The input block at a point, read at an index. -/
theorem iblk0_apply (c : Dev nD) (t : Fin cfg0.N) (y : S1x2048x256.Idx) :
    (iblk m c 0 t : Vec F S1x2048x256 .f32) y
      = (m ((c : Thread nD τ).loc main_arg0) : Vec F S16x2048x256 .f32) (ix3 ⟨t.val % 16, Nat.mod_lt _ (by decide)⟩ (y 1) (y 2)) := by
  show V m c main_arg0 (((cfg0.win 0).rect t).emb y) = _
  refine congrArg (V m c main_arg0) ?_
  have e := index0_0 t
  have y0 : (y 0).val < 1 := (y 0).isLt
  funext a
  apply Fin.ext
  refine (Pipeline.Window.rect_emb_val win0_0 t y a).trans ?_
  show cc0_transform_0 (grid0.coords t) a * S1x2048x256.size a + (y a).val = _
  rw [e]
  fin_cases a
  · show t.val % 16 * 1 + (y 0).val = t.val % 16; omega
  · show 0 * 2048 + (y 1).val = (y 1).val; omega
  · show 0 * 256 + (y 2).val = (y 2).val; omega

/-- The mean block at every point is the mean table. -/
theorem iblk1_eq (c : Dev nD) (t : Fin cfg0.N) : (iblk m c 1 t : Vec F S8x256 .f32) = m ((c : Thread nD τ).loc main_arg1) := by
  funext y
  show V m c main_arg1 (((cfg0.win 1).rect t).emb y) = _
  refine congrArg (V m c main_arg1) ?_
  have e := index0_1 t
  funext a
  apply Fin.ext
  refine (Pipeline.Window.rect_emb_val win0_1 t y a).trans ?_
  show cc0_transform_1 (grid0.coords t) a * S8x256.size a + (y a).val = _
  rw [e]
  fin_cases a
  · show 0 * 8 + (y 0).val = (y 0).val; omega
  · show 0 * 256 + (y 1).val = (y 1).val; omega

/-- The variance block at every point is the variance table. -/
theorem iblk2_eq (c : Dev nD) (t : Fin cfg0.N) : (iblk m c 2 t : Vec F S8x256 .f32) = m ((c : Thread nD τ).loc main_arg2) := by
  funext y
  show V m c main_arg2 (((cfg0.win 2).rect t).emb y) = _
  refine congrArg (V m c main_arg2) ?_
  have e := index0_2 t
  funext a
  apply Fin.ext
  refine (Pipeline.Window.rect_emb_val win0_2 t y a).trans ?_
  show cc0_transform_2 (grid0.coords t) a * S8x256.size a + (y a).val = _
  rw [e]
  fin_cases a
  · show 0 * 8 + (y 0).val = (y 0).val; omega
  · show 0 * 256 + (y 1).val = (y 1).val; omega

/-! ## The result array -/

/-- The kernel's result: row `b` is what the second pass writes for batch row `b`. -/
def result (c : Dev nD) : Vec F S16x2048x256 .f32 :=
  fun i => outAt m c (pt (16 + (i 0).val)) (ixb (i 1) (i 2))

/-- Where an element of the output block at a second-pass point sits in the array. -/
theorem emb0_3 (t : Fin cfg0.N) (ht : 16 ≤ t.val) (y : S1x2048x256.Idx) :
    ((cfg0.win 3).rect t).emb y = ix3 ⟨t.val - 16, by have := t.isLt; have : cfg0.N = 32 := N_0; omega⟩ (y 1) (y 2) := by
  have e := index0_3 t ht
  have y0 : (y 0).val < 1 := (y 0).isLt
  funext a
  apply Fin.ext
  refine (Pipeline.Window.rect_emb_val win0_3 t y a).trans ?_
  show cc0_transform_3 (grid0.coords t) a * S1x2048x256.size a + (y a).val = _
  rw [e]
  fin_cases a
  · show (t.val - 16) * 1 + (y 0).val = t.val - 16; omega
  · show 0 * 2048 + (y 1).val = (y 1).val; omega
  · show 0 * 256 + (y 2).val = (y 2).val; omega

/-- What a second-pass point writes back is its block of the result. -/
theorem flushed_eq (c : Dev nD) (t : Fin cfg0.N) (hf : (cfg0.win 3).flush t = true) :
    (dats m 0 c).flushed 3 t = ((cfg0.win 3).blk t).view.read (Elt F) (result m c) := by
  have ht := (flush0_3 t).mp hf
  have hN : t.val < 32 := Nat.lt_of_lt_of_eq t.isLt N_0
  show (cfg0.win 3).cut (grid0.coords t) ((dats m 0 c).after 3 t) = _
  rw [after0_3]
  funext y
  show outAt m c t y = result m c (((cfg0.win 3).rect t).emb y)
  rw [emb0_3 t ht y]
  show outAt m c t y = outAt m c (pt (16 + (t.val - 16))) (ixb (y 1) (y 2))
  rw [show 16 + (t.val - 16) = t.val by omega, pt_val]
  congr 1
  have y0 : (y 0).val < 1 := (y 0).isLt
  funext a
  apply Fin.ext
  fin_cases a
  · show (y 0).val = 0; omega
  · rfl
  · rfl

/-- An element of batch row `t - 16` is in the block the second-pass point `t` writes. -/
theorem mem_blk (t : Fin cfg0.N) (ht : 16 ≤ t.val) (i : S16x2048x256.Idx) (hi : (i 0).val = t.val - 16) :
    i ∈ ((cfg0.win 3).blk t).view.set := by
  show i ∈ ((View.whole main_v0).slice (win0_3.rect t)).set
  rw [View.set_slice_whole, Rect.mem_set_unit]
  have e := index0_3 t ht
  have i1 : (i 1).val < 2048 := (i 1).isLt
  have i2 : (i 2).val < 256 := (i 2).isLt
  intro a
  show cc0_transform_3 (grid0.coords t) a * S1x2048x256.size a ≤ (i a).val
    ∧ (i a).val < cc0_transform_3 (grid0.coords t) a * S1x2048x256.size a + S1x2048x256.size a
  rw [e]
  fin_cases a
  · show (t.val - 16) * 1 ≤ (i 0).val ∧ (i 0).val < (t.val - 16) * 1 + 1; omega
  · show 0 * 2048 ≤ (i 1).val ∧ (i 1).val < 0 * 2048 + 2048; omega
  · show 0 * 256 ≤ (i 2).val ∧ (i 2).val < 0 * 256 + 256; omega

/-- Every element of the output is in the block some second-pass point writes. -/
theorem cover (i : S16x2048x256.Idx) : ∃ t : Fin cfg0.N, (cfg0.win 3).flush t = true ∧ i ∈ ((cfg0.win 3).blk t).view.set := by
  have i0 : (i 0).val < 16 := (i 0).isLt
  have hv : (pt (16 + (i 0).val)).val = 16 + (i 0).val := Nat.mod_eq_of_lt (by omega)
  generalize pt (16 + (i 0).val) = t at hv
  exact ⟨t, (flush0_3 t).mpr (by omega), mem_blk t (by omega) i (by omega)⟩

/-- So the output array ends holding the result. -/
theorem final_out (c : Dev nD) : (dats m 0 c).arrAt 3 cfg0.N = result m c :=
  (dats m 0 c).arrAt_eq_of_cover 3 (result m c) (flushed_eq m c) cover

/-- The run: the result in the output array, the arguments unchanged, every semaphore at zero. -/
theorem run : θ_run defs (onTc (τ := τ) (main (F := F))) ⟨m, fun _ => 0, ρ⟩ (fun r => (∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 3).trans (final_out m c),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).2 main_arg3 (Pipeline.mem_restRefs_of main_arg3 (by decide) (by decide))).trans (V_main_arg3 m c)⟩, h.2⟩) (run_main m ρ)

end Cert.KernelIdeal.Hand

end
-- ==== Proof.Model.lean ====
/-
The two programs' arithmetic for one column of the data, written over the extended reals: what the
kernel computes and what the reference computes, as plain functions of the column `X b t`, the
clusters' means `μ k` and their raw variances `v k`.
-/
module

public import Idealize.ShloMosaic.PureOps.Ideal.Laws

@[expose] public section

noncomputable section

namespace Cert.Column
open Idealize.ShloMosaic
open scoped BigOperators

/-- The small constant the denominators carry, as the word's exact value. -/
def eps : EReal := ((8589935 / 8589934592 : ℝ) : EReal)

/-- `-1/2` over the natural logarithm of `2`, the factor of the kernel's base-two exponent. -/
def halfLog : EReal := (((-1 / 2) * (Real.log 2)⁻¹ : ℝ) : EReal)

/-- Twice the reciprocal root of one plus the small constant. -/
def twiceScale : EReal := ((2 * (Real.sqrt (8598524527 / 8589934592))⁻¹ : ℝ) : EReal)

/-- One over the number of rows. -/
def invRows : EReal := ((1 / 2048 : ℝ) : EReal)

/-- The number of rows. -/
def rows : EReal := ((2048 : ℝ) : EReal)

/-- One half. -/
def half : EReal := ((1 / 2 : ℝ) : EReal)

/-- Softplus in the form that does not overflow: `max v 0 + log (1 + exp (-|v|))`. -/
def softplus (v : EReal) : EReal := max v 0 + Ideal.log1p (Ideal.exp (-(max v (-v))))

/-! ### The kernel's column -/

/-- The kernel's unnormalised weight of the value `x` for a cluster. -/
def kE (x μ v : EReal) : EReal := Ideal.exp2 ((x - μ) * (x - μ) * Ideal.div halfLog (softplus v + eps))

/-- The reciprocal of the weights' total over the clusters. -/
def kR (x : EReal) (μ v : Fin 8 → EReal) : EReal := Ideal.div 1 (∑ k, kE x (μ k) (v k) + eps)

/-- The kernel's normalised weight. -/
def kTau (x : EReal) (μ v : Fin 8 → EReal) (k : Fin 8) : EReal := kE x (μ k) (v k) * kR x μ v

/-- The weighted value. -/
def kTau1 (x : EReal) (μ v : Fin 8 → EReal) (k : Fin 8) : EReal := kTau x μ v k * x

/-- The weighted value squared, weighted again. -/
def kTau3 (x : EReal) (μ v : Fin 8 → EReal) (k : Fin 8) : EReal := (kTau1 x μ v k * kTau1 x μ v k) * kTau x μ v k

/-- The weights' total over the whole column. -/
def kS (X : Fin 16 → Fin 2048 → EReal) (μ v : Fin 8 → EReal) (k : Fin 8) : EReal := ∑ b, ∑ t, kTau (X b t) μ v k

/-- The kernel's scale of a cluster from the total `s` and the sum `a3`. -/
def kW (s a3 : EReal) : EReal :=
  Ideal.rsqrt (((Ideal.div 1 (s + eps) * Ideal.div 1 (s + eps)) * Ideal.div 1 (s + eps)) * a3 * invRows + eps) * twiceScale * half

/-- The kernel's scaled mean of a cluster. -/
def kCw (s a1 a3 : EReal) : EReal := Ideal.div 1 (s + eps) * a1 * invRows * kW s a3

/-- The kernel's result for the value `x` from the clusters' scales and scaled means. -/
def kOut (x : EReal) (μ v w cw : Fin 8 → EReal) : EReal :=
  kR x μ v * (x * (∑ k, kE x (μ k) (v k) * w k) - ∑ k, kE x (μ k) (v k) * cw k)

/-- The kernel's result for a column. -/
def kernel (X : Fin 16 → Fin 2048 → EReal) (μ v : Fin 8 → EReal) (b : Fin 16) (t : Fin 2048) : EReal :=
  kOut (X b t) μ v (fun k => kW (kS X μ v k) (∑ u, kTau3 (X b u) μ v k))
    (fun k => kCw (kS X μ v k) (∑ u, kTau1 (X b u) μ v k) (∑ u, kTau3 (X b u) μ v k))

/-! ### The reference's column -/

/-- The reference's unnormalised weight. -/
def rE (x μ v : EReal) : EReal := Ideal.exp (Ideal.div (((-(1 / 2 : ℝ) : ℝ) : EReal) * (x - μ) * (x - μ)) (softplus v + eps))

/-- The reference's normalised weight. -/
def rTau (x : EReal) (μ v : Fin 8 → EReal) (k : Fin 8) : EReal := Ideal.div (rE x (μ k) (v k)) (∑ j, rE x (μ j) (v j) + eps)

/-- The weights' total over the whole column. -/
def rS (X : Fin 16 → Fin 2048 → EReal) (μ v : Fin 8 → EReal) (k : Fin 8) : EReal := ∑ b, ∑ t, rTau (X b t) μ v k

/-- The weight over its total. -/
def rHat (X : Fin 16 → Fin 2048 → EReal) (μ v : Fin 8 → EReal) (k : Fin 8) (b : Fin 16) (t : Fin 2048) : EReal :=
  Ideal.div (rTau (X b t) μ v k) (rS X μ v k + eps)

/-- The cluster's mean over a batch row. -/
def rMean (X : Fin 16 → Fin 2048 → EReal) (μ v : Fin 8 → EReal) (k : Fin 8) (b : Fin 16) : EReal :=
  Ideal.div (∑ t, rHat X μ v k b t * X b t) rows

/-- The cluster's variance over a batch row. -/
def rVar (X : Fin 16 → Fin 2048 → EReal) (μ v : Fin 8 → EReal) (k : Fin 8) (b : Fin 16) : EReal :=
  Ideal.div (∑ t, rHat X μ v k b t * (rHat X μ v k b t * X b t) * (rHat X μ v k b t * X b t)) rows

/-- The reference's result for a column. -/
def reference (X : Fin 16 → Fin 2048 → EReal) (μ v : Fin 8 → EReal) (b : Fin 16) (t : Fin 2048) : EReal :=
  ∑ k, Ideal.div (rTau (X b t) μ v k) (Ideal.sqrt (1 + eps)) * Ideal.div (X b t - rMean X μ v k b) (Ideal.sqrt (rVar X μ v k b + eps))

/-! ### The constants' words -/

theorem word_zero : Ideal.ofBits .f32 0x00000000#32 = 0 := by
  simp [Ideal.ofBits, Ideal.ieee]

theorem word_one : Ideal.ofBits .f32 0x3F800000#32 = 1 := by
  simp [Ideal.ofBits, Ideal.ieee, -EReal.coe_mul]; norm_num

theorem word_half : Ideal.ofBits .f32 0x3F000000#32 = half := by
  unfold half
  simp [Ideal.ofBits, Ideal.ieee, -EReal.coe_mul]; norm_num

theorem word_negHalf : Ideal.ofBits .f32 0xBF000000#32 = ((-(1 / 2 : ℝ) : ℝ) : EReal) := by
  simp [Ideal.ofBits, Ideal.ieee, -EReal.coe_mul, -EReal.coe_neg]; norm_num

theorem word_eps : Ideal.ofBits .f32 0x3A83126F#32 = eps := by
  unfold eps
  simp [Ideal.ofBits, Ideal.ieee, -EReal.coe_mul]; norm_num

theorem word_invRows : Ideal.ofBits .f32 0x3A000000#32 = invRows := by
  unfold invRows
  simp [Ideal.ofBits, Ideal.ieee, -EReal.coe_mul]; norm_num

theorem word_rows : Ideal.ofBits .f32 0x45000000#32 = rows := by
  unfold rows
  simp [Ideal.ofBits, Ideal.ieee, -EReal.coe_mul]; norm_num

theorem word_bot : Ideal.ofBits .f32 0xFF800000#32 = ⊥ := by
  simp [Ideal.ofBits, Ideal.ieee]

theorem word_top : Ideal.ofBits .f32 0x7F800000#32 = ⊤ := by
  simp [Ideal.ofBits, Ideal.ieee]

end Cert.Column

end
-- ==== Proof.KernelAt.lean ====
/- The kernel's output array at the extended reals, read element by element as the column's arithmetic. -/
module

public import proofs.«01_k».proof.Proof.Value
public import proofs.«01_k».proof.Proof.Model

@[expose] public section

set_option maxRecDepth 16384

noncomputable section

namespace Cert.KernelIdeal.Hand

open Cert.KernelIdeal Cert.KernelIdeal.Gen Cert.Column
open Idealize.ShloMosaic Idealize.ShloMosaic.TcCoe
open Idealize.SL Idealize.SL.Sem
open scoped BigOperators

/-- Element `(k, d)` of an 8-row table. -/
def ixk (k : Fin 8) (d : Fin 256) : S8x256.Idx := Fin.cons k (Fin.cons d (fun i => i.elim0))

/-- Row `k` repeated down a chunk, read at any row. -/
theorem rowB_at (k : Fin 8) (v : FVec Ideal S8x256 .f32) (a : Fin 128) (d : Fin 256) : rowB k v (ix2 a d) = v (ixk k d) := by
  unfold rowB
  refine (broadcastTo_apply _ _ _ (Fin.cons (⟨0, Nat.one_pos⟩ : Fin 1) (Fin.cons d (fun i => i.elim0)) : S1x256.Idx) ?_).trans ?_
  · intro b
    fin_cases b
    · rfl
    · rfl
  · refine extractStridedSlice_apply _ _ _ _ _ ?_
    intro b
    fin_cases b
    · rfl
    · exact (Nat.zero_add _).symm

/-- Eight vectors added, read at an element. -/
theorem sum8_at {s : Shape} (f : Fin 8 → FVec Ideal s .f32) (i : s.Idx) : sum8 f i = ∑ k, f k i := by
  rw [Fin.sum_univ_eight]; rfl

/-- A comparison of a value with itself for difference is never set. -/
theorem cmp_self (x : EReal) : FloatOps.cmpf (F := Ideal) (φ := .f32) .one x x = 0#1 := by
  show BitVec.ofBool (decide (x ≠ x)) = 0#1
  simp

/-- The exponent's factor of a cluster. -/
theorem pay1_at (var : FVec Ideal S8x256 .f32) (i : S8x256.Idx) : k0_pay1 (F := Ideal) var i = Ideal.div halfLog (softplus (var i) + eps) := by
  show Ideal.div (Named.named (F := Ideal) (φ := .f32) κ "neg_half_log2e" 0xBF38AA3B#32)
    ((if FloatOps.cmpf (F := Ideal) (φ := .f32) .one (var i - Ideal.ofBits .f32 0x00000000#32) (var i - Ideal.ofBits .f32 0x00000000#32) = 1#1
      then var i + Ideal.ofBits .f32 0x00000000#32
      else max (var i) (Ideal.ofBits .f32 0x00000000#32)
        + Ideal.log1p (Ideal.exp (Ideal.ofBits .f32 0x00000000#32
          - max (var i - Ideal.ofBits .f32 0x00000000#32) (-(var i - Ideal.ofBits .f32 0x00000000#32)))))
      + Ideal.ofBits .f32 0x3A83126F#32) = _
  rw [cmp_self, if_neg (by decide), word_zero, word_eps]
  have e : Named.named (F := Ideal) (φ := .f32) κ "neg_half_log2e" 0xBF38AA3B#32 = halfLog := rfl
  rw [e]
  unfold softplus
  simp only [sub_eq_add_neg, neg_zero, add_zero, zero_add]

section Chunk

variable (mean var : FVec Ideal S8x256 .f32) (x : FVec Ideal S128x256 .f32) (k : Fin 8) (a : Fin 128) (d : Fin 256)

/-- The unnormalised weight at an element. -/
theorem expK_at : expK mean var x k (ix2 a d) = kE (x (ix2 a d)) (mean (ixk k d)) (var (ixk k d)) := by
  show Ideal.exp2 ((x (ix2 a d) - rowB k mean (ix2 a d)) * (x (ix2 a d) - rowB k mean (ix2 a d)) * rowB k (k0_pay1 (F := Ideal) var) (ix2 a d)) = _
  rw [rowB_at, rowB_at, pay1_at]
  rfl

/-- The reciprocal of the weights' total at an element. -/
theorem rcp_at : rcp mean var x (ix2 a d) = kR (x (ix2 a d)) (fun k => mean (ixk k d)) (fun k => var (ixk k d)) := by
  show Ideal.div (Ideal.ofBits .f32 0x3F800000#32) (sum8 (expK mean var x) (ix2 a d) + Ideal.ofBits .f32 0x3A83126F#32) = _
  rw [sum8_at, word_one, word_eps]
  unfold kR
  congr 2
  exact Finset.sum_congr rfl fun k _ => expK_at mean var x k a d

/-- The normalised weight at an element. -/
theorem tauK_at : tauK mean var x k (ix2 a d) = kTau (x (ix2 a d)) (fun k => mean (ixk k d)) (fun k => var (ixk k d)) k := by
  show expK mean var x k (ix2 a d) * rcp mean var x (ix2 a d) = _
  rw [expK_at, rcp_at]; rfl

/-- The weighted value at an element. -/
theorem tau1K_at : tau1K mean var x k (ix2 a d) = kTau1 (x (ix2 a d)) (fun k => mean (ixk k d)) (fun k => var (ixk k d)) k := by
  show tauK mean var x k (ix2 a d) * x (ix2 a d) = _
  rw [tauK_at]; rfl

/-- The weighted value squared and weighted again, at an element. -/
theorem tau3K_at : tau3K mean var x k (ix2 a d) = kTau3 (x (ix2 a d)) (fun k => mean (ixk k d)) (fun k => var (ixk k d)) k := by
  show tau1K mean var x k (ix2 a d) * tau1K mean var x k (ix2 a d) * tauK mean var x k (ix2 a d) = _
  rw [tau1K_at, tauK_at]; rfl

/-- One chunk of the output at an element. -/
theorem outChunk_at (w cw : FVec Ideal S8x256 .f32) : outChunk mean var w cw x (ix2 a d)
    = kOut (x (ix2 a d)) (fun k => mean (ixk k d)) (fun k => var (ixk k d)) (fun k => w (ixk k d)) (fun k => cw (ixk k d)) := by
  show rcp mean var x (ix2 a d) * (x (ix2 a d) * sum8 (fun k => mulf (expK mean var x k) (rowB k w)) (ix2 a d)
    - sum8 (fun k => mulf (expK mean var x k) (rowB k cw)) (ix2 a d)) = _
  rw [rcp_at, sum8_at, sum8_at]
  have h : ∀ u : FVec Ideal S8x256 .f32, (∑ k, mulf (expK mean var x k) (rowB k u) (ix2 a d))
      = ∑ k, kE (x (ix2 a d)) (mean (ixk k d)) (var (ixk k d)) * u (ixk k d) := by
    intro u
    refine Finset.sum_congr rfl fun k _ => ?_
    show expK mean var x k (ix2 a d) * rowB k u (ix2 a d) = _
    rw [expK_at, rowB_at]
  rw [h, h]; rfl

end Chunk

/-! ### The sums -/

/-- Row `8 q + s` of a chunk. -/
def grp (q : Fin 16) (s : Fin 8) : Fin 128 := ⟨8 * q.val + s.val, by omega⟩

/-- A chunk's grouped sum at an element. -/
theorem vsum_at (v : FVec Ideal S128x256 .f32) (s : Fin 8) (d : Fin 256) : vsum v (ixk s d) = ∑ q : Fin 16, v (ix2 (grp q s) d) := by
  unfold vsum
  refine (Ideal.multiReduction_add_single _ _ _ _ _ _).trans ?_
  refine Finset.sum_congr rfl fun q _ => ?_
  refine shapeCast_apply _ _ _ _ ?_
  refine (Shape.rowMajor_val_two _).trans (Eq.trans ?_ (Shape.rowMajor_val_three _).symm)
  show (8 * q.val + s.val) * 256 + d.val = (q.val * 8 + s.val) * 256 + d.val
  rw [Nat.mul_comm 8]

/-- The running sum at an element. -/
theorem accum_at (f : ℕ → FVec Ideal S8x256 .f32) (i : S8x256.Idx) : ∀ n, accum f n i = ∑ c ∈ Finset.range n, f c i
  | 0 => word_zero
  | n + 1 => by
    rw [Finset.sum_range_succ, ← accum_at f i n]; rfl

/-- The sum of eight rows at an element. -/
theorem row1_at (v : FVec Ideal S8x256 .f32) (d : Fin 256) :
    row1 v (Fin.cons (⟨0, Nat.one_pos⟩ : Fin 1) (Fin.cons d (fun i => i.elim0)) : S1x256.Idx) = ∑ s : Fin 8, v (ixk s d) := by
  unfold row1
  refine (shapeCast_apply _ _ _ (Fin.cons d (fun i => i.elim0) : S256.Idx) ?_).trans ?_
  · refine (Shape.rowMajor_val_one _).trans (Eq.trans ?_ (Shape.rowMajor_val_two _).symm)
    show d.val = 0 * 256 + d.val
    omega
  · refine (Ideal.multiReduction_add_single _ _ _ _ _ _).trans ?_
    refine Finset.sum_congr rfl fun s _ => ?_
    congr 1
    funext b
    apply Fin.ext
    fin_cases b <;> rfl

/-- The eight accumulators stacked, at an element. -/
theorem fin8_at (f : Fin 8 → FVec Ideal S8x256 .f32) (k : Fin 8) (d : Fin 256) : fin8 f (ixk k d) = ∑ s : Fin 8, f k (ixk s d) := by
  refine (concatenate_ofFn_unit_apply (t := S8x256) (s₁ := S1x256) 0 (fun n : Fin 8 => row1 (f n))
    concatenates_S1x256_S1x256_S1x256_S1x256_S1x256_S1x256_S1x256_S1x256_S8x256_d0 rfl rfl (ixk k d) k rfl
    (Fin.cons (⟨0, Nat.one_pos⟩ : Fin 1) (Fin.cons d (fun i => i.elim0)) : S1x256.Idx) ?_).trans (row1_at _ d)
  intro b hb
  fin_cases b
  · exact absurd rfl hb
  · rfl

/-- A range of `m * n` numbers summed block by block. -/
theorem sum_blocks (F : ℕ → EReal) (n : ℕ) : ∀ m, ∑ t ∈ Finset.range (n * m), F t = ∑ i ∈ Finset.range m, ∑ j ∈ Finset.range n, F (n * i + j)
  | 0 => by simp
  | m + 1 => by rw [Nat.mul_succ, Finset.sum_range_add, sum_blocks F n m, Finset.sum_range_succ]

/-- The order in which the kernel adds a batch row's elements does not matter. -/
theorem sum_order (F : ℕ → EReal) :
    (∑ s : Fin 8, ∑ c ∈ Finset.range 16, ∑ q : Fin 16, F (128 * c + (8 * q.val + s.val))) = ∑ t : Fin 2048, F t.val := by
  rw [← Finset.sum_range (n := 2048) F, show 2048 = 128 * 16 from rfl, sum_blocks F 128 16, Finset.sum_comm]
  refine Finset.sum_congr rfl fun c _ => ?_
  rw [show 128 = 8 * 16 from rfl, sum_blocks (fun j => F (8 * 16 * c + j)) 8 16, Finset.sum_comm,
    Finset.sum_range (fun i => ∑ j ∈ Finset.range 8, F (8 * 16 * c + (8 * i + j)))]
  refine Finset.sum_congr rfl fun q _ => ?_
  exact (Finset.sum_range (fun j => F (8 * 16 * c + (8 * q.val + j)))).symm

/-- Row `a` of chunk `c` of a batch row's block. -/
theorem chunkOf_at (x0 : Vec Ideal S1x2048x256 .f32) (c : ℕ) (hc : c < 16) (a : Fin 128) (d : Fin 256) :
    chunkOf (chunks x0) c (ix2 a d) = x0 (ixb ⟨128 * c + a.val, by omega⟩ d) := by
  unfold chunkOf
  refine (shapeCast_dropUnit_apply ![128, 256] _ _ (ix2 a d)).trans ?_
  unfold chunks View.ld
  congr 1
  have e : (Fin.ofNat 16 c).val = c := Nat.mod_eq_of_lt hc
  funext b
  apply Fin.ext
  fin_cases b
  · rfl
  · show 128 * (Fin.ofNat 16 c).val + 1 * a.val = 128 * c + a.val
    rw [e, Nat.one_mul]
  · exact (Nat.zero_add _).trans (Nat.one_mul _)

/-- A statistic of a batch row's block, as the sum over its elements. -/
theorem stat_at (g : FVec Ideal S128x256 .f32 → Fin 8 → FVec Ideal S128x256 .f32) (x0 : Vec Ideal S1x2048x256 .f32) (k : Fin 8) (d : Fin 256)
    (γ : EReal → EReal) (hg : ∀ x a, g x k (ix2 a d) = γ (x (ix2 a d))) :
    stat g (chunks x0) (ixk k d) = ∑ t : Fin 2048, γ (x0 (ixb t d)) := by
  unfold stat
  rw [fin8_at]
  have h := sum_order (fun n => γ (x0 (ixb (Fin.ofNat 2048 n) d)))
  have ht : ∀ t : Fin 2048, Fin.ofNat 2048 t.val = t := fun t => Fin.ext (Nat.mod_eq_of_lt t.isLt)
  simp only [ht] at h
  rw [← h]
  refine Finset.sum_congr rfl fun s _ => ?_
  rw [accum_at]
  refine Finset.sum_congr rfl fun c hc => ?_
  have hc : c < 16 := Finset.mem_range.mp hc
  rw [vsum_at]
  refine Finset.sum_congr rfl fun q _ => ?_
  rw [hg, chunkOf_at x0 c hc]
  congr 3
  apply Fin.ext
  show 128 * c + (8 * q.val + s.val) = (128 * c + (8 * q.val + s.val)) % 2048
  omega

/-! ### The result -/

variable (m : (l : Loc nD τ sig) → l.ty.Contents (Elt Ideal)) (c : Dev nD) (d : Fin 256)

/-- A column of the data. -/
def colX (b : Fin 16) (t : Fin 2048) : EReal := (m ((c : Thread nD τ).loc main_arg0) : Vec Ideal S16x2048x256 .f32) (ix3 b t d)
/-- A column of the means. -/
def colM (k : Fin 8) : EReal := (m ((c : Thread nD τ).loc main_arg1) : Vec Ideal S8x256 .f32) (ixk k d)
/-- A column of the raw variances. -/
def colV (k : Fin 8) : EReal := (m ((c : Thread nD τ).loc main_arg2) : Vec Ideal S8x256 .f32) (ixk k d)

/-- A statistic of the batch row a point reads, as the sum over that row's column. -/
theorem statAt_at (g : FVec Ideal S8x256 .f32 → FVec Ideal S8x256 .f32 → FVec Ideal S128x256 .f32 → Fin 8 → FVec Ideal S128x256 .f32)
    (γ : EReal → (Fin 8 → EReal) → (Fin 8 → EReal) → Fin 8 → EReal)
    (hg : ∀ mean var x k a d, g mean var x k (ix2 a d) = γ (x (ix2 a d)) (fun k => mean (ixk k d)) (fun k => var (ixk k d)) k)
    (p : Fin cfg0.N) (b : Fin 16) (hb : p.val % 16 = b.val) (k : Fin 8) :
    statAt m g c p (ixk k d) = ∑ t, γ (colX m c d b t) (colM m c d) (colV m c d) k := by
  unfold statAt
  refine (stat_at _ _ k d (fun z => γ z (colM m c d) (colV m c d) k) ?_).trans ?_
  · intro x a
    rw [hg, iblk1_eq, iblk2_eq]
    rfl
  · refine Finset.sum_congr rfl fun t _ => ?_
    rw [iblk0_apply]
    have e : (⟨p.val % 16, Nat.mod_lt _ (by decide)⟩ : Fin 16) = b := Fin.ext hb
    rw [e]
    rfl

/-- The weights' total after `n` batch rows. -/
theorem sAt_at (k : Fin 8) : ∀ n, n ≤ 16 → sAt m c n (ixk k d) = ∑ b ∈ Finset.range n, ∑ t, kTau (colX m c d (Fin.ofNat 16 b) t) (colM m c d) (colV m c d) k
  | 0, _ => word_zero
  | n + 1, h => by
    rw [Finset.sum_range_succ, ← sAt_at k n (by omega)]
    show sAt m c n (ixk k d) + statAt m tauK c (pt n) (ixk k d) = _
    rw [statAt_at m c d tauK kTau (fun mean var x k a d => tauK_at mean var x k a d) (pt n) (Fin.ofNat 16 n) ?_ k]
    show n % 32 % 16 = n % 16
    omega

/-- The weights' total over all batch rows. -/
theorem sAt_16 (k : Fin 8) : sAt m c 16 (ixk k d) = kS (colX m c d) (colM m c d) (colV m c d) k := by
  rw [sAt_at m c d k 16 le_rfl, Finset.sum_range]
  unfold kS
  refine Finset.sum_congr rfl fun b _ => ?_
  rw [show Fin.ofNat 16 b.val = b from Fin.ext (Nat.mod_eq_of_lt b.isLt)]

/-- Adding and dropping a leading unit axis changes nothing. -/
theorem cast_cast (a : FVec Ideal S8x256 .f32) (i : S8x256.Idx) :
    shapeCast S8x256 (shapeCast S1x8x256 a shapeCasts_S8x256_S1x8x256) shapeCasts_S1x8x256_S8x256 i = a i := by
  refine (shapeCast_dropUnit_apply ![8, 256] _ _ i).trans ?_
  exact shapeCast_addUnit_apply ![8, 256] a shapeCasts_S8x256_S1x8x256 _

/-- The clusters' scale at an element. -/
theorem wOf_at (s a3 : FVec Ideal S8x256 .f32) (i : S8x256.Idx) : wOf s a3 i = kW (s i) (a3 i) := by
  show Ideal.rsqrt (((Ideal.div (Ideal.ofBits .f32 0x3F800000#32) (s i + Ideal.ofBits .f32 0x3A83126F#32)
      * Ideal.div (Ideal.ofBits .f32 0x3F800000#32) (s i + Ideal.ofBits .f32 0x3A83126F#32))
      * Ideal.div (Ideal.ofBits .f32 0x3F800000#32) (s i + Ideal.ofBits .f32 0x3A83126F#32))
      * shapeCast S8x256 (shapeCast S1x8x256 a3 shapeCasts_S8x256_S1x8x256) shapeCasts_S1x8x256_S8x256 i
      * Ideal.ofBits .f32 0x3A000000#32 + Ideal.ofBits .f32 0x3A83126F#32)
    * Named.named (F := Ideal) (φ := .f32) κ "twice_pri_scale" 0x3FFFDF42#32 * Ideal.ofBits .f32 0x3F000000#32 = _
  have e : Named.named (F := Ideal) (φ := .f32) κ "twice_pri_scale" 0x3FFFDF42#32 = twiceScale := rfl
  rw [cast_cast, word_one, word_eps, word_half, word_invRows, e]
  rfl

/-- The clusters' scaled mean at an element. -/
theorem cwOf_at (s a1 a3 : FVec Ideal S8x256 .f32) (i : S8x256.Idx) : cwOf s a1 a3 i = kCw (s i) (a1 i) (a3 i) := by
  show Ideal.div (Ideal.ofBits .f32 0x3F800000#32) (s i + Ideal.ofBits .f32 0x3A83126F#32)
      * shapeCast S8x256 (shapeCast S1x8x256 a1 shapeCasts_S8x256_S1x8x256) shapeCasts_S1x8x256_S8x256 i
      * Ideal.ofBits .f32 0x3A000000#32 * wOf s a3 i = _
  rw [cast_cast, word_one, word_eps, word_invRows, wOf_at]
  rfl

/-- The kernel's result, element by element. -/
theorem result_at (b : Fin 16) (t : Fin 2048) :
    result m c (ix3 b t d) = kernel (colX m c d) (colM m c d) (colV m c d) b t := by
  have hp : (pt (16 + b.val)).val % 16 = b.val := by
    show (16 + b.val) % 32 % 16 = b.val
    omega
  have hp' : (pt ((pt (16 + b.val)).val % 16)).val % 16 = b.val := by
    rw [hp]
    show b.val % 32 % 16 = b.val
    omega
  show outAt m c (pt (16 + b.val)) (ixb t d) = _
  unfold outAt outBlock
  show outChunk _ _ _ _ (chunkOf (chunks (iblk m c 0 (pt (16 + b.val)))) (t.val / 128)) (ix2 ⟨t.val % 128, _⟩ d) = _
  rw [outChunk_at, chunkOf_at _ _ (by omega), iblk0_apply, iblk1_eq, iblk2_eq]
  have e0 : (⟨(pt (16 + b.val)).val % 16, Nat.mod_lt _ (by decide)⟩ : Fin 16) = b := Fin.ext hp
  have et : (⟨128 * (t.val / 128) + t.val % 128, by omega⟩ : Fin 2048) = t := Fin.ext (Nat.div_add_mod _ _)
  have ex : (m ((c : Thread nD τ).loc main_arg0) : Vec Ideal S16x2048x256 .f32)
      (ix3 ⟨(pt (16 + b.val)).val % 16, Nat.mod_lt _ (by decide)⟩ (ixb ⟨128 * (t.val / 128) + t.val % 128, by omega⟩ d 1)
        (ixb ⟨128 * (t.val / 128) + t.val % 128, by omega⟩ d 2)) = colX m c d b t := by
    rw [e0, et]; rfl
  unfold kernel
  refine congr (congr (congrArg (fun z => kOut z (colM m c d) (colV m c d)) ex) (funext fun k => ?_)) (funext fun k => ?_)
  · rw [wOf_at, sAt_16, statAt_at m c d tau3K kTau3 (fun mean var x k a d => tau3K_at mean var x k a d) _ b hp' k]
  · rw [cwOf_at, sAt_16, statAt_at m c d tau3K kTau3 (fun mean var x k a d => tau3K_at mean var x k a d) _ b hp' k,
      statAt_at m c d tau1K kTau1 (fun mean var x k a d => tau1K_at mean var x k a d) _ b hp' k]

end Cert.KernelIdeal.Hand

end
-- ==== Proof.RefAt.lean ====
/- The reference's result at the extended reals, read element by element as the column's arithmetic. -/
module

public import proofs.«01_k».proof.Proof.Gen.ReferenceIdeal.Read
public import proofs.«01_k».proof.Proof.KernelAt
public import Idealize.ShloMosaic.PureOps.Reduce

@[expose] public section

set_option maxRecDepth 16384

noncomputable section

namespace Cert.ReferenceIdeal.Hand

open Cert.ReferenceIdeal Cert.ReferenceIdeal.Gen Cert.ReferenceIdeal.Read Cert.Column
open Cert.KernelIdeal.Hand (ix3 ixk)
open Idealize.ShloMosaic Idealize.ShloMosaic.TcCoe Idealize.SL.Sem
open scoped BigOperators

/-- Element `(k, b, t, d)` of a table with one block per cluster. -/
def ix4 (k : Fin 8) (b : Fin 16) (t : Fin 2048) (d : Fin 256) : S8x16x2048x256.Idx :=
  Fin.cons k (Fin.cons b (Fin.cons t (Fin.cons d (fun i => i.elim0))))

variable (x0 : (⟨S16x2048x256, .f32⟩ : BufTy).Contents (Elt Ideal)) (x1 x2 : (⟨S8x256, .f32⟩ : BufTy).Contents (Elt Ideal))
  (x3 : (⟨S8x1, .f32⟩ : BufTy).Contents (Elt Ideal))

/-! ### The prior's weight is one -/

/-- A comparison of a value with itself for difference is never set. -/
theorem une_self (x : EReal) : FloatOps.cmpf (F := Ideal) (φ := .f32) .une x x = 0#1 := by
  show BitVec.ofBool (decide (x ≠ x)) = 0#1
  simp

/-- The larger of minus infinity and the row's one element is that element. -/
theorem v1_at (j : S8.Idx) : val_main_v1 (F := Ideal) x3 j = x3 (idx_main_v7 j 0) := by
  unfold val_main_v1
  rw [Host.reduce_eq_fold_single (α := Ideal .f32) (FloatOps.maximumf (F := Ideal) (φ := .f32)) x3 _ reducesTo_S8x1_S8_d1 (by decide) h_S_ j]
  refine (Finset.fold_singleton (op := FloatOps.maximumf (F := Ideal) (φ := .f32)) (a := (0 : Fin 1))).trans ?_
  show max (x3 _) (Ideal.ofBits .f32 0xFF800000#32) = _
  rw [word_bot, max_bot_right]
  exact congrArg x3 (funext fun a => Fin.ext (by fin_cases a <;> rfl))

variable (hp : ∀ i, x3 i ≠ ⊤ ∧ x3 i ≠ ⊥)
include hp

/-- A finite value less itself has exponential one. -/
theorem v6_at (i : S8x1.Idx) : val_main_v6 (F := Ideal) x3 i = (1 : EReal) := by
  rw [val_main_v6_apply, val_main_v5_apply, val_main_v4_apply, val_main_v3_apply, val_main_v2_apply, val_main_cst_0_apply, v1_at]
  have e : idx_main_v7 (idx_main_v4 i) 0 = i := funext fun a => Fin.ext (by
    fin_cases a
    · rfl
    · have : (i 1).val < 1 := (i 1).isLt
      show 0 = (i 1).val; omega)
  rw [e]
  show Ideal.exp (x3 i - max (Ideal.ofBits .f32 0xFF800000#32) (x3 i)) = 1
  rw [word_bot, max_bot_left]
  obtain ⟨h1, h2⟩ := hp i
  generalize x3 i = y at h1 h2
  induction y using EReal.rec with
  | bot => exact absurd rfl h2
  | top => exact absurd rfl h1
  | coe r =>
    rw [← EReal.coe_sub, sub_self]
    show ((Real.exp 0 : ℝ) : EReal) = 1
    rw [Real.exp_zero]; rfl

/-- The softmax over one element is one. -/
theorem v10_at (i : S8.Idx) : val_main_v10 (F := Ideal) x3 i = (1 : EReal) := by
  rw [val_main_v10_apply, val_main_v9_apply, val_main_v8_apply, val_main_v7_apply, v6_at x3 hp]
  simp only [v6_at x3 hp]
  show Ideal.div 1 (Ideal.ofBits .f32 0x00000000#32 + ∑ k : Fin 1, (1 : EReal)) = 1
  rw [word_zero, zero_add, Fin.sum_univ_one]
  unfold Ideal.div
  rw [if_neg one_ne_zero]
  simp

omit hp

/-! ### The weights -/

variable (k : Fin 8) (b : Fin 16) (t : Fin 2048) (d : Fin 256)

/-- The variance's softplus. -/
theorem v0_at (i : S8x256.Idx) : val_main_v0 (F := Ideal) x2 i = softplus (x2 i) := by
  rw [val_main_v0_apply, val_main_call0_v4_apply, une_self]
  refine (if_neg (by decide)).trans ?_
  rw [val_main_call0_v11_apply, val_main_call0_v1_apply, val_main_call0_v10_apply, val_main_call0_v9_apply,
    val_main_call0_v8_apply, val_main_call0_v7_apply, val_main_call0_v3_apply, val_main_call0_v0_apply, val_main_call0_v2_apply,
    val_main_call0_cst_apply]
  show max (x2 i) (Ideal.ofBits .f32 0x00000000#32) + Ideal.log1p (Ideal.exp (-(max (x2 i - Ideal.ofBits .f32 0x00000000#32)
    (-(x2 i - Ideal.ofBits .f32 0x00000000#32))))) = _
  rw [word_zero]
  unfold softplus
  simp only [sub_eq_add_neg, neg_zero, add_zero]

/-- The deviation from the cluster's mean. -/
theorem v15_at : val_main_v15 (F := Ideal) x0 x1 (ix4 k b t d) = (x0 (ix3 b t d) - x1 (ixk k d) : EReal) := by
  rw [val_main_v15_apply, val_main_v13_apply, val_main_v11_apply, val_main_v14_apply, val_main_v12_apply]
  have e1 : idx_main_v11 (idx_main_v13 (ix4 k b t d)) = ix3 b t d := funext fun a => Fin.ext (by fin_cases a <;> rfl)
  have e2 : idx_main_v12 (idx_main_v14 (ix4 k b t d)) = ixk k d := funext fun a => Fin.ext (by fin_cases a <;> rfl)
  rw [e1, e2]
  rfl

/-- The variance with the small constant. -/
theorem v23_at : val_main_v23 (F := Ideal) x2 (ix4 k b t d) = softplus (x2 (ixk k d)) + eps := by
  rw [val_main_v23_apply, val_main_v22_apply, val_main_v20_apply, val_main_v21_apply, val_main_cst_3_apply, v0_at]
  have e : idx_main_v20 (idx_main_v23 (ix4 k b t d)) = ixk k d := funext fun a => Fin.ext (by fin_cases a <;> rfl)
  rw [e]
  show _ + Ideal.ofBits .f32 0x3A83126F#32 = _
  rw [word_eps]

/-- The unnormalised weight without the prior. -/
theorem v25_at : val_main_v25 (F := Ideal) x0 x1 x2 (ix4 k b t d) = rE (x0 (ix3 b t d)) (x1 (ixk k d)) (x2 (ixk k d)) := by
  rw [val_main_v25_apply, val_main_v24_apply, val_main_v19_apply, val_main_v18_apply, val_main_v17_apply, val_main_cst_2_apply,
    v15_at, v23_at]
  show Ideal.exp (Ideal.div (Ideal.ofBits .f32 0xBF000000#32 * _ * _) _) = _
  rw [word_negHalf]
  rfl

include hp

/-- The unnormalised weight. -/
theorem v27_at : val_main_v27 (F := Ideal) x0 x1 x2 x3 (ix4 k b t d) = rE (x0 (ix3 b t d)) (x1 (ixk k d)) (x2 (ixk k d)) := by
  rw [val_main_v27_apply, val_main_v26_apply, val_main_v16_apply, v10_at x3 hp, v25_at]
  exact one_mul _

/-- The normalised weight. -/
theorem v33_at : val_main_v33 (F := Ideal) x0 x1 x2 x3 (ix4 k b t d)
    = rTau (x0 (ix3 b t d)) (fun k => x1 (ixk k d)) (fun k => x2 (ixk k d)) k := by
  rw [val_main_v33_apply, v27_at x0 x1 x2 x3 hp, val_main_v32_apply, val_main_v31_apply, val_main_v30_apply, val_main_cst_5_apply,
    val_main_v29_apply, val_main_v28_apply, val_main_cst_4_apply]
  have e : ∀ j : Fin 8, val_main_v27 (F := Ideal) x0 x1 x2 x3 (idx_main_v28 (idx_main_v29 (idx_main_v32 (ix4 k b t d))) j)
      = rE (x0 (ix3 b t d)) (x1 (ixk j d)) (x2 (ixk j d)) := by
    intro j
    have e : idx_main_v28 (idx_main_v29 (idx_main_v32 (ix4 k b t d))) j = ix4 j b t d :=
      funext fun a => Fin.ext (by fin_cases a <;> rfl)
    rw [e, v27_at x0 x1 x2 x3 hp]
  simp only [e]
  show Ideal.div _ (Ideal.ofBits .f32 0x00000000#32 + _ + Ideal.ofBits .f32 0x3A83126F#32) = _
  rw [word_zero, zero_add, word_eps]
  rfl

omit hp

/-- A sum over the two middle axes of a table with one block per cluster. -/
theorem sum_mid (x : S8x16x2048x256.Idx → EReal) (init : EReal) :
    Ideal.hostReduceAdd reducesTo_S8x16x2048x256_S8x256_d1_2 x init (ixk k d) = init + ∑ b : Fin 16, ∑ t : Fin 2048, x (ix4 k b t d) := by
  unfold Ideal.hostReduceAdd
  refine congrArg (init + ·) ?_
  rw [← Fintype.sum_prod_type' (fun (b : Fin 16) (t : Fin 2048) => x (ix4 k b t d))]
  have hd0 : ∀ i : S8x16x2048x256.Idx, (reducesTo_S8x16x2048x256_S8x256_d1_2.drop i 0 : ℕ) = i 0 := fun i =>
    Shape.ReducesTo.drop_apply_val_of_eq _ i 0 0
  have hd1 : ∀ i : S8x16x2048x256.Idx, (reducesTo_S8x16x2048x256_S8x256_d1_2.drop i 1 : ℕ) = i 3 := fun i =>
    Shape.ReducesTo.drop_apply_val_of_eq _ i 1 3
  have hinv : ∀ i : S8x16x2048x256.Idx, reducesTo_S8x16x2048x256_S8x256_d1_2.drop i = ixk k d → ix4 k (i 1) (i 2) d = i := by
    intro i hi
    have h0 : k.val = (i 0).val := by rw [← hd0 i, hi]; rfl
    have h1 : d.val = (i 3).val := by rw [← hd1 i, hi]; rfl
    funext a
    apply Fin.ext
    fin_cases a
    · exact h0
    · rfl
    · rfl
    · exact h1
  refine Finset.sum_bij' (fun i _ => ((i 1 : Fin 16), (i 2 : Fin 2048))) (fun p _ => ix4 k p.1 p.2 d) ?_ ?_ ?_ ?_ ?_
  · exact fun i _ => Finset.mem_univ _
  · intro p _
    refine Finset.mem_filter.mpr ⟨Finset.mem_univ _, ?_⟩
    funext a
    apply Fin.ext
    fin_cases a
    · exact hd0 _
    · exact hd1 _
  · exact fun i hi => hinv i (Finset.mem_filter.mp hi).2
  · exact fun p _ => rfl
  · intro i hi
    rw [hinv i (Finset.mem_filter.mp hi).2]

section Column

variable (X : Fin 16 → Fin 2048 → EReal) (M V : Fin 8 → EReal) (hX : ∀ b t, x0 (ix3 b t d) = X b t) (hM : ∀ k, x1 (ixk k d) = M k)
  (hV : ∀ k, x2 (ixk k d) = V k)
include hp hX hM hV

/-- The normalised weight, by the column's names. -/
theorem tau_at (k : Fin 8) (b : Fin 16) (t : Fin 2048) : val_main_v33 (F := Ideal) x0 x1 x2 x3 (ix4 k b t d) = rTau (X b t) M V k := by
  rw [v33_at x0 x1 x2 x3 hp, hX, funext hM, funext hV]

/-- The weights' total with the small constant. -/
theorem v38_at : val_main_v38 (F := Ideal) x0 x1 x2 x3 (ix4 k b t d) = rS X M V k + eps := by
  rw [val_main_v38_apply, val_main_v37_apply, val_main_v36_apply, val_main_cst_7_apply, val_main_v35_apply]
  have e : idx_main_v35 (idx_main_v38 (ix4 k b t d)) = ixk k d := funext fun a => Fin.ext (by fin_cases a <;> rfl)
  rw [e]
  unfold val_main_v34
  show Ideal.hostReduceAdd reducesTo_S8x16x2048x256_S8x256_d1_2 _ (Ideal.ofBits .f32 0x00000000#32) (ixk k d)
    + Ideal.ofBits .f32 0x3A83126F#32 = _
  rw [sum_mid, word_zero, zero_add, word_eps]
  simp only [tau_at x0 x1 x2 x3 hp d X M V hX hM hV]
  rfl

/-- The weight over its total. -/
theorem v39_at : val_main_v39 (F := Ideal) x0 x1 x2 x3 (ix4 k b t d) = rHat X M V k b t := by
  rw [val_main_v39_apply, tau_at x0 x1 x2 x3 hp d X M V hX hM hV, v38_at x0 x1 x2 x3 hp k b t d X M V hX hM hV]
  rfl

/-- The data times the weight over its total. -/
theorem v42_at : val_main_v42 (F := Ideal) x0 x1 x2 x3 (ix4 k b t d) = rHat X M V k b t * X b t := by
  rw [val_main_v42_apply, v39_at x0 x1 x2 x3 hp k b t d X M V hX hM hV, val_main_v41_apply, val_main_v40_apply]
  have e : idx_main_v40 (idx_main_v41 (ix4 k b t d)) = ix3 b t d := funext fun a => Fin.ext (by fin_cases a <;> rfl)
  rw [e, hX]
  rfl

/-- The cluster's mean over a batch row. -/
theorem v49_at : val_main_v49 (F := Ideal) x0 x1 x2 x3 (ix4 k b t d) = rMean X M V k b := by
  rw [val_main_v49_apply, val_main_v46_apply, val_main_v45_apply, val_main_cst_9_apply, val_main_v44_apply, val_main_v43_apply,
    val_main_cst_8_apply]
  have e : ∀ u : Fin 2048, val_main_v42 (F := Ideal) x0 x1 x2 x3 (idx_main_v43 (idx_main_v44 (idx_main_v49 (ix4 k b t d))) u)
      = rHat X M V k b u * X b u := by
    intro u
    have e : idx_main_v43 (idx_main_v44 (idx_main_v49 (ix4 k b t d))) u = ix4 k b u d :=
      funext fun a => Fin.ext (by fin_cases a <;> rfl)
    rw [e, v42_at x0 x1 x2 x3 hp k b u d X M V hX hM hV]
  simp only [e]
  show Ideal.div (Ideal.ofBits .f32 0x00000000#32 + _) (Ideal.ofBits .f32 0x45000000#32) = _
  rw [word_zero, zero_add, word_rows]
  rfl

/-- The root of the cluster's variance over a batch row with the small constant. -/
theorem v60_at : val_main_v60 (F := Ideal) x0 x1 x2 x3 (ix4 k b t d) = Ideal.sqrt (rVar X M V k b + eps) := by
  rw [val_main_v60_apply, val_main_v59_apply, val_main_v58_apply, val_main_v57_apply, val_main_cst_12_apply, val_main_v56_apply,
    val_main_v55_apply, val_main_cst_11_apply, val_main_v54_apply, val_main_v53_apply, val_main_cst_10_apply]
  have e : ∀ u : Fin 2048, val_main_v52 (F := Ideal) x0 x1 x2 x3 (idx_main_v53 (idx_main_v54 (idx_main_v60 (ix4 k b t d))) u)
      = rHat X M V k b u * (rHat X M V k b u * X b u) * (rHat X M V k b u * X b u) := by
    intro u
    have e : idx_main_v53 (idx_main_v54 (idx_main_v60 (ix4 k b t d))) u = ix4 k b u d :=
      funext fun a => Fin.ext (by fin_cases a <;> rfl)
    rw [e, val_main_v52_apply, val_main_v51_apply, v42_at x0 x1 x2 x3 hp k b u d X M V hX hM hV,
      v39_at x0 x1 x2 x3 hp k b u d X M V hX hM hV]
    rfl
  simp only [e]
  show Ideal.sqrt (Ideal.div (Ideal.ofBits .f32 0x00000000#32 + _) (Ideal.ofBits .f32 0x45000000#32) + Ideal.ofBits .f32 0x3A83126F#32) = _
  rw [word_zero, zero_add, word_rows, word_eps]
  rfl

/-- The reference's result, element by element. -/
theorem result_at : val_main_v69 (F := Ideal) x0 x1 x2 x3 (ix3 b t d) = reference X M V b t := by
  rw [val_main_v69_apply, val_main_cst_14_apply]
  have e : ∀ j : Fin 8, val_main_v68 (F := Ideal) x0 x1 x2 x3 (idx_main_v69 (ix3 b t d) j)
      = Ideal.div (rTau (X b t) M V j) (Ideal.sqrt (1 + eps))
        * Ideal.div (X b t - rMean X M V j b) (Ideal.sqrt (rVar X M V j b + eps)) := by
    intro j
    have e : idx_main_v69 (ix3 b t d) j = ix4 j b t d := funext fun a => Fin.ext (by fin_cases a <;> rfl)
    rw [e, val_main_v68_apply, val_main_v67_apply, val_main_v61_apply, val_main_v50_apply, v60_at x0 x1 x2 x3 hp j b t d X M V hX hM hV,
      v49_at x0 x1 x2 x3 hp j b t d X M V hX hM hV, tau_at x0 x1 x2 x3 hp d X M V hX hM hV, val_main_v66_apply, val_main_v65_apply,
      val_main_v64_apply, val_main_v63_apply, v10_at x3 hp, val_main_v62_apply, val_main_cst_13_apply, val_main_v48_apply,
      val_main_v47_apply]
    have e' : idx_main_v47 (idx_main_v48 (ix4 j b t d)) = ix3 b t d := funext fun a => Fin.ext (by fin_cases a <;> rfl)
    rw [e', hX]
    show Ideal.div _ (Ideal.sqrt (1 + Ideal.ofBits .f32 0x3A83126F#32)) * _ = _
    rw [word_eps]
    rfl
  simp only [e]
  show Ideal.ofBits .f32 0x00000000#32 + _ = _
  rw [word_zero, zero_add]
  rfl

end Column

end Cert.ReferenceIdeal.Hand

end
-- ==== Proof.Equation.lean ====
/- The two columns' arithmetic agree: the kernel's result is the reference's at every data, mean and variance. -/
module

public import proofs.«01_k».proof.Proof.Model
public import Mathlib.Analysis.SpecialFunctions.Pow.Real

@[expose] public section

namespace Cert.Column
open Idealize.ShloMosaic
open scoped BigOperators

/-! ### Sums and products of extended reals -/

/-- A sum of reals is the sum of their extended reals. -/
theorem coe_sum {ι : Type} [DecidableEq ι] (s : Finset ι) (f : ι → ℝ) : ((∑ i ∈ s, f i : ℝ) : EReal) = ∑ i ∈ s, (f i : EReal) := by
  induction s using Finset.induction_on with
  | empty => simp
  | insert a s ha ih => rw [Finset.sum_insert ha, Finset.sum_insert ha, EReal.coe_add, ih]

/-- A nonnegative real factor moves into a sum. -/
theorem mul_sum {ι : Type} [DecidableEq ι] (s : Finset ι) (c : ℝ) (hc : 0 ≤ c) (f : ι → EReal) :
    (c : EReal) * ∑ i ∈ s, f i = ∑ i ∈ s, (c : EReal) * f i := by
  induction s using Finset.induction_on with
  | empty => simp
  | insert a s ha ih =>
    rw [Finset.sum_insert ha, Finset.sum_insert ha, ← ih]
    exact EReal.left_distrib_of_nonneg_of_ne_top (EReal.coe_nonneg.mpr hc) (EReal.coe_ne_top c) _ _

/-- A square is not negative. -/
theorem sq_nonneg' (x : EReal) : 0 ≤ x * x := by
  rcases le_total 0 x with h | h
  · exact EReal.mul_nonneg h h
  · exact EReal.mul_nonneg_iff.mpr (Or.inr ⟨h, h⟩)

/-- Division by a real that is not zero. -/
theorem div_real (x : EReal) (y : ℝ) (hy : y ≠ 0) : Ideal.div x (y : EReal) = x * ((1 / y : ℝ) : EReal) := Ideal.div_coe hy x

/-- Division by plus infinity is zero. -/
theorem div_top (x : EReal) : Ideal.div x ⊤ = 0 := by
  unfold Ideal.div
  rw [if_neg EReal.top_ne_zero, EReal.inv_top, mul_zero]

/-- The value of the small constant as a real. -/
noncomputable def e0 : ℝ := 8589935 / 8589934592

theorem e0_pos : 0 < e0 := by unfold e0; norm_num

theorem eps_eq : eps = (e0 : EReal) := rfl

/-! ### One weight -/

/-- The logarithm of a value of at least one is not negative. -/
theorem log_nonneg' (z : EReal) (hz : 1 ≤ z) : 0 ≤ Ideal.log z := by
  induction z using EReal.rec with
  | bot => exact absurd hz (not_le.mpr (EReal.bot_lt_coe 1))
  | top => exact le_top
  | coe r =>
    have h1 : 1 ≤ r := EReal.coe_le_coe_iff.mp (by simpa using hz)
    rw [Ideal.log_coe, if_neg (by linarith)]
    exact EReal.coe_nonneg.mpr (Real.log_nonneg h1)

/-- An exponential is not negative. -/
theorem exp_nonneg' (z : EReal) : 0 ≤ Ideal.exp z := by
  induction z using EReal.rec with
  | bot => exact le_refl _
  | top => exact le_top
  | coe r => exact EReal.coe_nonneg.mpr (Real.exp_pos r).le

/-- Softplus is not negative. -/
theorem softplus_nonneg (v : EReal) : 0 ≤ softplus v := by
  unfold softplus Ideal.log1p
  refine add_nonneg (le_max_right _ _) (log_nonneg' _ ?_)
  exact le_add_of_nonneg_right (exp_nonneg' _)

/-- The two programs' unnormalised weights are one nonnegative real. -/
theorem weight (x μ v : EReal) : ∃ e : ℝ, 0 ≤ e ∧ kE x μ v = e ∧ rE x μ v = e := by
  unfold kE rE
  have hs := softplus_nonneg v
  generalize softplus v = s at hs
  generalize x - μ = d
  rw [eps_eq]
  induction s using EReal.rec with
  | bot => exact absurd hs (by simp)
  | top =>
    have ht : (⊤ : EReal) + (e0 : EReal) = ⊤ := EReal.top_add_coe e0
    refine ⟨1, zero_le_one, ?_, ?_⟩
    · rw [ht, div_top, mul_zero, ← EReal.coe_zero, Ideal.exp2_coe]
      show ((2 : ℝ) ^ (0 : ℝ) : ℝ) = ((1 : ℝ) : EReal)
      rw [Real.rpow_zero]
    · rw [ht, div_top, ← EReal.coe_zero, Ideal.exp_coe, Real.exp_zero]
  | coe s =>
    have hs : 0 ≤ s := EReal.coe_nonneg.mp hs
    have hp : 0 < s + e0 := add_pos_of_nonneg_of_pos hs e0_pos
    have hi : 0 < 1 / (s + e0) := by positivity
    have hl : 0 < Real.log 2 := Real.log_pos (by norm_num)
    have hneg : (-1 / 2) * (Real.log 2)⁻¹ * (1 / (s + e0)) < 0 := by
      have : 0 < (Real.log 2)⁻¹ * (1 / (s + e0)) := by positivity
      linarith
    rw [← EReal.coe_add, div_real _ _ hp.ne', div_real _ _ hp.ne']
    unfold halfLog
    rw [← EReal.coe_mul]
    induction d using EReal.rec with
    | bot =>
      refine ⟨0, le_refl _, ?_, ?_⟩
      · rw [EReal.bot_mul_bot, EReal.top_mul_coe_of_neg hneg]; rfl
      · rw [EReal.coe_mul_bot_of_neg (by norm_num), EReal.top_mul_bot, EReal.bot_mul_coe_of_pos hi]; rfl
    | top =>
      refine ⟨0, le_refl _, ?_, ?_⟩
      · rw [EReal.top_mul_top, EReal.top_mul_coe_of_neg hneg]; rfl
      · rw [EReal.coe_mul_top_of_neg (by norm_num), EReal.bot_mul_top, EReal.bot_mul_coe_of_pos hi]; rfl
    | coe d =>
      refine ⟨Real.exp (-(1 / 2) * d * d * (1 / (s + e0))), (Real.exp_pos _).le, ?_, ?_⟩
      · rw [← EReal.coe_mul, ← EReal.coe_mul, Ideal.exp2_coe]
        congr 1
        show (2 : ℝ) ^ (d * d * ((-1 / 2) * (Real.log 2)⁻¹ * (1 / (s + e0)))) = _
        rw [Real.rpow_def_of_pos (by norm_num)]
        congr 1
        field_simp
      · rw [← EReal.coe_mul, ← EReal.coe_mul, ← EReal.coe_mul, Ideal.exp_coe]

/-- The normalised weights of one value: nonnegative reals `e k * r` with `r` positive, the same in both programs. -/
theorem weights (x : EReal) (μ v : Fin 8 → EReal) : ∃ (e : Fin 8 → ℝ) (r : ℝ), (∀ k, 0 ≤ e k) ∧ 0 < r ∧
    (∀ k, kE x (μ k) (v k) = e k) ∧ kR x μ v = r ∧ (∀ k, kTau x μ v k = ((e k * r : ℝ) : EReal)) ∧
    ∀ k, rTau x μ v k = ((e k * r : ℝ) : EReal) := by
  choose e he hk hr using fun k => weight x (μ k) (v k)
  have hs : 0 < ∑ k, e k + e0 := add_pos_of_nonneg_of_pos (Finset.sum_nonneg fun k _ => he k) e0_pos
  have hsum : (∑ k, (e k : EReal)) + eps = ((∑ k, e k + e0 : ℝ) : EReal) := by
    rw [eps_eq, EReal.coe_add, coe_sum]
  have hR : kR x μ v = ((1 / (∑ k, e k + e0) : ℝ) : EReal) := by
    unfold kR
    simp only [hk]
    rw [hsum, div_real _ _ hs.ne', one_mul]
  refine ⟨e, 1 / (∑ k, e k + e0), he, by positivity, hk, hR, fun k => ?_, fun k => ?_⟩
  · unfold kTau
    rw [hk, hR, ← EReal.coe_mul]
  · unfold rTau
    simp only [hr]
    rw [hsum, div_real _ _ hs.ne', ← EReal.coe_mul]

/-! ### One cluster's statistics over a batch row -/

/-- A nonnegative term of a sum of nonnegative terms is not plus infinity when the sum is not. -/
theorem term_ne_top {ι : Type} [Fintype ι] (f : ι → EReal) (hf : ∀ i, 0 ≤ f i) (h : ∑ i, f i ≠ ⊤) (i : ι) : f i ≠ ⊤ := by
  intro hi
  have := Finset.single_le_sum (fun j _ => hf j) (Finset.mem_univ i)
  rw [hi] at this
  exact h (top_le_iff.mp this)

/-- A weighted value whose weighted square is not plus infinity has weight zero or is a real. -/
theorem real_of_cube (τ : ℝ) (hτ : 0 ≤ τ) (x : EReal) (h : ((τ : EReal) * x * ((τ : EReal) * x)) * (τ : EReal) ≠ ⊤) :
    τ = 0 ∨ ∃ y : ℝ, x = y := by
  rcases hτ.eq_or_lt with h0 | h0
  · exact Or.inl h0.symm
  · right
    induction x using EReal.rec with
    | bot =>
      refine absurd ?_ h
      rw [EReal.coe_mul_bot_of_pos h0, EReal.bot_mul_bot, EReal.top_mul_coe_of_pos h0]
    | top =>
      refine absurd ?_ h
      rw [EReal.coe_mul_top_of_pos h0, EReal.top_mul_top, EReal.top_mul_coe_of_pos h0]
    | coe y => exact ⟨y, rfl⟩

/-- The reciprocal root of one plus the small constant. -/
noncomputable def pri : ℝ := (Real.sqrt (1 + e0))⁻¹

/-- The two programs' scale of a cluster over a batch row: a real factor `w`, zero when the statistic is infinite; when it is
    not, the cluster's mean is a real and each value of the row is a real or has weight zero. -/
theorem cluster (τ : Fin 2048 → ℝ) (hτ : ∀ t, 0 ≤ τ t) (x : Fin 2048 → EReal) (S : ℝ) (hS : 0 ≤ S) :
    ∃ (w E : ℝ),
      kW (S : EReal) (∑ t, ((τ t : EReal) * x t * ((τ t : EReal) * x t)) * (τ t : EReal)) = ((w * pri : ℝ) : EReal) ∧
      kCw (S : EReal) (∑ t, (τ t : EReal) * x t) (∑ t, ((τ t : EReal) * x t * ((τ t : EReal) * x t)) * (τ t : EReal))
        = ((E * (w * pri) : ℝ) : EReal) ∧
      (∀ y : EReal, Ideal.div y (Ideal.sqrt (Ideal.div (∑ t, Ideal.div (τ t : EReal) ((S : EReal) + eps)
          * (Ideal.div (τ t : EReal) ((S : EReal) + eps) * x t) * (Ideal.div (τ t : EReal) ((S : EReal) + eps) * x t)) rows + eps))
        = y * (w : EReal)) ∧
      (w = 0 ∨ (Ideal.div (∑ t, Ideal.div (τ t : EReal) ((S : EReal) + eps) * x t) rows = (E : EReal)
        ∧ ∀ t, τ t = 0 ∨ ∃ y : ℝ, x t = y)) := by
  have hp : 0 < S + e0 := add_pos_of_nonneg_of_pos hS e0_pos
  obtain ⟨ρ, hρ⟩ : ∃ ρ : ℝ, ρ = 1 / (S + e0) := ⟨_, rfl⟩
  have hρ0 : 0 < ρ := by rw [hρ]; positivity
  have hdiv : ∀ y : EReal, Ideal.div y ((S : EReal) + eps) = y * (ρ : EReal) := by
    intro y
    rw [eps_eq, ← EReal.coe_add, div_real _ _ hp.ne', hρ]
  have hrows : ∀ y : EReal, Ideal.div y rows = y * invRows := fun y => div_real y 2048 (by norm_num)
  have hterm0 : ∀ t, 0 ≤ ((τ t : EReal) * x t * ((τ t : EReal) * x t)) * (τ t : EReal) := fun t =>
    EReal.mul_nonneg (sq_nonneg' _) (EReal.coe_nonneg.mpr (hτ t))
  -- the reference's sums are the kernel's scaled
  have hmean : (∑ t, Ideal.div (τ t : EReal) ((S : EReal) + eps) * x t) = (ρ : EReal) * ∑ t, (τ t : EReal) * x t := by
    rw [mul_sum _ _ hρ0.le]
    refine Finset.sum_congr rfl fun t _ => ?_
    rw [hdiv]
    ac_rfl
  have hvar : (∑ t, Ideal.div (τ t : EReal) ((S : EReal) + eps)
      * (Ideal.div (τ t : EReal) ((S : EReal) + eps) * x t) * (Ideal.div (τ t : EReal) ((S : EReal) + eps) * x t))
      = ((ρ * ρ * ρ : ℝ) : EReal) * ∑ t, ((τ t : EReal) * x t * ((τ t : EReal) * x t)) * (τ t : EReal) := by
    rw [mul_sum _ _ (by positivity)]
    refine Finset.sum_congr rfl fun t _ => ?_
    rw [hdiv, EReal.coe_mul, EReal.coe_mul]
    ac_rfl
  have hscale : ∀ y : ℝ, (y : EReal) * twiceScale * half = ((y * pri : ℝ) : EReal) := by
    intro y
    unfold twiceScale half
    rw [← EReal.coe_mul, ← EReal.coe_mul]
    congr 1
    have : (8598524527 / 8589934592 : ℝ) = 1 + e0 := by unfold e0; norm_num
    rw [this]
    unfold pri
    ring
  have hA0 : 0 ≤ ∑ t, ((τ t : EReal) * x t * ((τ t : EReal) * x t)) * (τ t : EReal) := Finset.sum_nonneg fun t _ => hterm0 t
  rw [hmean, hvar]
  unfold kCw
  have hW : ∀ A : EReal, kW (S : EReal) A = Ideal.rsqrt (((ρ * ρ * ρ : ℝ) : EReal) * A * invRows + eps) * twiceScale * half := by
    intro A
    unfold kW
    rw [hdiv, one_mul, EReal.coe_mul, EReal.coe_mul]
  rw [hdiv, one_mul]
  by_cases hA : (∑ t, ((τ t : EReal) * x t * ((τ t : EReal) * x t)) * (τ t : EReal)) = ⊤
  · -- an infinite statistic: both scales are zero
    rw [hA, hW, hrows]
    have hq : ((ρ * ρ * ρ : ℝ) : EReal) * ⊤ * invRows + eps = ⊤ := by
      rw [EReal.coe_mul_top_of_pos (by positivity)]
      unfold invRows
      rw [EReal.top_mul_coe_of_pos (by norm_num), eps_eq, EReal.top_add_coe]
    rw [hq]
    have hw : Ideal.rsqrt ⊤ * twiceScale * half = ((0 * pri : ℝ) : EReal) := by
      rw [← hscale]; rfl
    refine ⟨0, 0, hw, ?_, ?_, Or.inl rfl⟩
    · rw [hw, zero_mul, EReal.coe_zero, mul_zero, mul_zero, EReal.coe_zero]
    · intro y
      show Ideal.div y ⊤ = _
      rw [div_top, EReal.coe_zero, mul_zero]
  · -- a finite one: everything in sight is a real
    have hreal : ∀ t, τ t = 0 ∨ ∃ y : ℝ, x t = y := fun t => real_of_cube (τ t) (hτ t) (x t) (term_ne_top _ hterm0 hA t)
    have hprod : ∀ t, ∃ y : ℝ, (τ t : EReal) * x t = y := by
      intro t
      rcases hreal t with h | ⟨y, h⟩
      · exact ⟨0, by rw [h, EReal.coe_zero, zero_mul]⟩
      · exact ⟨τ t * y, by rw [h, EReal.coe_mul]⟩
    choose p hpr using hprod
    have hA1 : (∑ t, (τ t : EReal) * x t) = ((∑ t, p t : ℝ) : EReal) := by
      rw [coe_sum]; exact Finset.sum_congr rfl fun t _ => hpr t
    have hA3 : (∑ t, ((τ t : EReal) * x t * ((τ t : EReal) * x t)) * (τ t : EReal)) = ((∑ t, p t * p t * τ t : ℝ) : EReal) := by
      rw [coe_sum]
      refine Finset.sum_congr rfl fun t _ => ?_
      rw [hpr, EReal.coe_mul, EReal.coe_mul]
    have ha : 0 ≤ ∑ t, p t * p t * τ t := Finset.sum_nonneg fun t _ => mul_nonneg (mul_self_nonneg _) (hτ t)
    rw [hA1, hA3, hW, hrows, hrows]
    generalize (∑ t, p t * p t * τ t) = a at ha
    generalize (∑ t, p t) = a1
    obtain ⟨q, hq⟩ : ∃ q : ℝ, q = ρ * ρ * ρ * a * (1 / 2048) + e0 := ⟨_, rfl⟩
    have hq0 : 0 < q := by
      rw [hq]
      exact add_pos_of_nonneg_of_pos (by positivity) e0_pos
    have hqe : ((ρ * ρ * ρ : ℝ) : EReal) * (a : EReal) * invRows + eps = (q : EReal) := by
      unfold invRows
      rw [eps_eq, ← EReal.coe_mul, ← EReal.coe_mul, ← EReal.coe_add, hq]
    have hsq : 0 < Real.sqrt q := Real.sqrt_pos.mpr hq0
    rw [hqe, Ideal.rsqrt_coe, if_neg (not_lt.mpr hq0.le), if_neg hq0.ne', hscale, Ideal.sqrt_coe, if_neg (not_lt.mpr hq0.le)]
    refine ⟨(Real.sqrt q)⁻¹, ρ * a1 * (1 / 2048), rfl, ?_, ?_, Or.inr ⟨?_, hreal⟩⟩
    · unfold invRows
      rw [← EReal.coe_mul, ← EReal.coe_mul, ← EReal.coe_mul]
    · intro y
      rw [div_real _ _ hsq.ne', one_div]
    · unfold invRows
      rw [← EReal.coe_mul, ← EReal.coe_mul]

/-! ### The result -/

/-- The results agree when each cluster's scale, scaled mean and mean are related as `cluster` gives them. -/
theorem combine (x : EReal) (e : Fin 8 → ℝ) (r : ℝ) (w E : Fin 8 → ℝ) (M : Fin 8 → EReal)
    (h : ∀ k, w k = 0 ∨ (M k = (E k : EReal) ∧ (e k = 0 ∨ ∃ y : ℝ, x = y))) :
    (r : EReal) * (x * (∑ k, (e k : EReal) * ((w k * pri : ℝ) : EReal)) - ∑ k, (e k : EReal) * ((E k * (w k * pri) : ℝ) : EReal))
      = ∑ k, ((e k * r * pri : ℝ) : EReal) * ((x - M k) * (w k : EReal)) := by
  by_cases hx : ∃ y : ℝ, x = y
  · obtain ⟨y, rfl⟩ := hx
    have ht : ∀ k, ((e k * r * pri : ℝ) : EReal) * (((y : EReal) - M k) * (w k : EReal))
        = ((e k * r * pri * ((y - E k) * w k) : ℝ) : EReal) := by
      intro k
      rcases h k with h0 | ⟨hM, -⟩
      · rw [h0, EReal.coe_zero, mul_zero, mul_zero, mul_zero, mul_zero, EReal.coe_zero]
      · rw [hM, ← EReal.coe_sub, ← EReal.coe_mul, ← EReal.coe_mul]
    simp only [ht, ← EReal.coe_mul]
    rw [← coe_sum, ← coe_sum, ← coe_sum, ← EReal.coe_mul, ← EReal.coe_sub, ← EReal.coe_mul]
    congr 1
    rw [Finset.mul_sum, ← Finset.sum_sub_distrib, Finset.mul_sum]
    refine Finset.sum_congr rfl fun k _ => ?_
    ring
  · have hz : ∀ k, w k = 0 ∨ e k = 0 := fun k => (h k).imp_right fun h => h.2.resolve_right hx
    have h1 : ∀ k, (e k : EReal) * ((w k * pri : ℝ) : EReal) = 0 := by
      intro k
      rcases hz k with h0 | h0 <;> simp [h0]
    have h2 : ∀ k, (e k : EReal) * ((E k * (w k * pri) : ℝ) : EReal) = 0 := by
      intro k
      rcases hz k with h0 | h0 <;> simp [h0]
    have h3 : ∀ k, ((e k * r * pri : ℝ) : EReal) * ((x - M k) * (w k : EReal)) = 0 := by
      intro k
      rcases hz k with h0 | h0 <;> simp [h0]
    simp only [h1, h2, h3, Finset.sum_const_zero, mul_zero, sub_zero]

/-- The kernel's column is the reference's. -/
theorem kernel_eq_reference (X : Fin 16 → Fin 2048 → EReal) (μ v : Fin 8 → EReal) (b : Fin 16) (t : Fin 2048) :
    kernel X μ v b t = reference X μ v b t := by
  choose e r he hr hE hR hK hT using fun b t => weights (X b t) μ v
  have hτ : ∀ b t k, 0 ≤ e b t k * r b t := fun b t k => mul_nonneg (he b t k) (hr b t).le
  have hkS : ∀ k, kS X μ v k = ((∑ b, ∑ t, e b t k * r b t : ℝ) : EReal) := by
    intro k
    unfold kS
    simp only [hK, coe_sum]
  have hrS : ∀ k, rS X μ v k = ((∑ b, ∑ t, e b t k * r b t : ℝ) : EReal) := by
    intro k
    unfold rS
    simp only [hT, coe_sum]
  choose w E h1 h2 h3 h4 using fun k => cluster (fun u => e b u k * r b u) (fun u => hτ b u k) (X b)
    (∑ b, ∑ t, e b t k * r b t) (Finset.sum_nonneg fun b _ => Finset.sum_nonneg fun t _ => hτ b t k)
  have hpri : ∀ y : ℝ, Ideal.div (y : EReal) (Ideal.sqrt (1 + eps)) = ((y * pri : ℝ) : EReal) := by
    intro y
    have hp : 0 < 1 + e0 := add_pos one_pos e0_pos
    have hs : 0 < Real.sqrt (1 + e0) := Real.sqrt_pos.mpr hp
    rw [eps_eq, ← EReal.coe_one, ← EReal.coe_add, Ideal.sqrt_coe, if_neg (not_lt.mpr hp.le), div_real _ _ hs.ne', ← EReal.coe_mul]
    unfold pri
    rw [one_div]
  unfold kernel reference kOut
  have hv : ∀ k, Ideal.div (X b t - rMean X μ v k b) (Ideal.sqrt (rVar X μ v k b + eps)) = (X b t - rMean X μ v k b) * (w k : EReal) := by
    intro k
    unfold rVar rHat
    simp only [hT, hrS]
    exact h3 k _
  simp only [hv, hE, hR, hT, hpri, kTau1, kTau3, hK, hkS, h1, h2]
  refine combine (X b t) (e b t) (r b t) w E (fun k => rMean X μ v k b) fun k => (h4 k).imp_right fun h => ⟨?_, ?_⟩
  · unfold rMean rHat
    simp only [hT, hrS]
    exact h.1
  · exact (h.2 t).imp_left fun h0 => (mul_eq_zero.mp h0).resolve_right (hr b t).ne'

end Cert.Column

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelFrame
public import proofs.«01_k».proof.Proof.Value
public import proofs.«01_k».proof.Proof.KernelAt
public import proofs.«01_k».proof.Proof.RefAt
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem
open Cert.KernelIdeal.Hand (ix3 ixk colX colM colV)

/-! ### The programs' stated facts -/

instance factsKernel : Cert.Kernel.Facts := Cert.Kernel.Gen.facts
instance factsKernelIdeal : Cert.KernelIdeal.Facts := Cert.KernelIdeal.Gen.facts
instance factsReferenceIdeal : Cert.ReferenceIdeal.Facts := Cert.ReferenceIdeal.Gen.facts
instance factsPre : Cert.Pre_prior_finite.Facts := ⟨by decide⟩

/-! ### The frames -/

/-- The kernel as written runs, leaves its arguments unchanged and every counter at zero. -/
theorem frameKernel : Cert.quiescent_Kernel := fun m ρ _ => Cert.Kernel.Hand.frame m ρ

/-- The ideal kernel runs from any memory, leaves its arguments unchanged and every counter at zero. -/
theorem frameIdeal : Cert.quiescent_KernelIdeal := fun m ρ _ =>
  (θ_run Cert.KernelIdeal.defs _ _).mono (fun _ h => ⟨fun c => (h.1 c).2, h.2⟩) (Cert.KernelIdeal.Hand.run (F := Ideal) m ρ)

/-- The reference runs from any memory and leaves its arguments unchanged; it has no semaphore. -/
theorem frameReference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ### The precondition -/

/-- A comparison that is set says that it holds. -/
theorem of_set {p : Prop} [Decidable p] {y : BitVec 1} (h : BitVec.ofBool (decide p) &&& y = 1#1) : p := by
  by_contra hp
  rw [decide_eq_false hp] at h
  revert h y
  decide

/-- The second of two comparisons that are both set holds. -/
theorem of_set' {p : Prop} [Decidable p] {y : BitVec 1} (h : y &&& BitVec.ofBool (decide p) = 1#1) : p := by
  by_contra hp
  rw [decide_eq_false hp] at h
  revert h y
  decide

/-- Under the precondition no prior logit is infinite. -/
theorem prior_ne (x0 : FVec Ideal Cert.Pre_prior_finite.S16x2048x256 .f32) (x1 x2 : FVec Ideal Cert.Pre_prior_finite.S8x256 .f32)
    (x3 : FVec Ideal Cert.Pre_prior_finite.S8x1 .f32) (h : Cert.Pre_prior_finite.fn (F := Ideal) x0 x1 x2 x3 = fun _ => 1#1)
    (i : Cert.Pre_prior_finite.S8x1.Idx) : x3 i ≠ ⊤ ∧ x3 i ≠ ⊥ := by
  have e : BitVec.ofBool (decide (Ideal.ofBits .f32 0xFF800000#32 < x3 i))
      &&& (BitVec.ofBool (decide (x3 i < Ideal.ofBits .f32 0x7F800000#32))) = 1#1 := congrFun h i
  have lo := of_set e
  have hi := of_set' e
  rw [Cert.Column.word_bot] at lo
  rw [Cert.Column.word_top] at hi
  exact ⟨ne_of_lt hi, ne_of_gt lo⟩

/-! ### The values -/

/-- An index of the result is the three coordinates it has. -/
theorem ix3_eta (i : Cert.KernelIdeal.S16x2048x256.Idx) : i = ix3 (i 0) (i 1) (i 2) :=
  funext fun a => Fin.ext (by fin_cases a <;> rfl)

/-- The reference's result at the kernel's arguments is the kernel's, at every element. -/
theorem value_eq (m : (ℓ : Loc Cert.KernelIdeal.nD Cert.KernelIdeal.τ Cert.KernelIdeal.sig) → Buf (Elt Ideal) ℓ)
    (hm : Cert.Pre_KernelIdeal_prior_finite m) (c : Dev Cert.KernelIdeal.nD) :
    Cert.ReferenceIdeal.Read.val_main_v69 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
      = Cert.KernelIdeal.Hand.result (F := Ideal) m c := by
  have at_ix3 : ∀ (b : Fin 16) (t : Fin 2048) (d : Fin 256), Cert.ReferenceIdeal.Read.val_main_v69 (F := Ideal) _ _ _ _ (ix3 b t d)
      = Cert.KernelIdeal.Hand.result (F := Ideal) m c (ix3 b t d) := fun b t d =>
    (Cert.ReferenceIdeal.Hand.result_at _ _ _ _ (prior_ne _ _ _ _ (hm c)) b t d
      (colX m c d) (colM m c d) (colV m c d) (fun _ _ => rfl) (fun _ => rfl) (fun _ => rfl)).trans
    ((Cert.Column.kernel_eq_reference _ _ _ b t).symm.trans (Cert.KernelIdeal.Hand.result_at m c d b t).symm)
  funext i
  rw [ix3_eta i]
  exact at_ix3 (i 0) (i 1) (i 2)

/-- Over the extended reals, kernel and reference end with the same result, on finite prior logits. -/
theorem values : Cert.algebraic_KernelIdeal_ReferenceIdeal_pre_prior_finite := fun m ρ m' ρ' hm ha =>
  ⟨fun c => Cert.KernelIdeal.Hand.result (F := Ideal) m c,
    (θ_run Cert.KernelIdeal.defs _ _).mono (fun _ h => h.1) (Cert.KernelIdeal.Hand.run (F := Ideal) m ρ),
    (θ_run Cert.ReferenceIdeal.defs _ _).mono (fun _ h c => ⟨(h c).1.trans (by
        rw [Cert.ReferenceIdeal.Read.val_main_v69_eq, (ha c).1, (ha c).2.1, (ha c).2.2.1, (ha c).2.2.2]
        exact value_eq m hm c), (h c).2⟩)
      (Cert.ReferenceIdeal.Value.run (F := Ideal) m' ρ')⟩

/-- Every claim of this certificate. -/
theorem claim : Cert.Claim :=
  ⟨factsKernel, factsKernelIdeal, factsReferenceIdeal, factsPre,
    frameKernel, frameIdeal, fun m ρ _ => frameIdeal m ρ trivial, frameReference, fun m ρ _ => frameReference m ρ trivial,
    ⟨IdealRules.named_const.statement Cert.KernelIdeal.κ "neg_half_log2e" .f32 0xBF38AA3B#32 _ rfl,
      IdealRules.named_const.statement Cert.KernelIdeal.κ "twice_pri_scale" .f32 0x3FFFDF42#32 _ rfl⟩,
    values⟩

end Cert.Proof

end
